-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S65536x768 : Shape := ⟨2, ![65536, 768]⟩
abbrev S65536x1 : Shape := ⟨2, ![65536, 1]⟩
abbrev S128 : Shape := ⟨1, ![128]⟩
abbrev S128x768x2048 : Shape := ⟨3, ![128, 768, 2048]⟩
abbrev S128x2048 : Shape := ⟨2, ![128, 2048]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S65536x768 .fp8e4m3) (main_arg1 : FVec F S65536x1 .f32) (main_arg2 : IVec S128 32) (main_arg3 : FVec F S128x768x2048 .fp8e4m3) (main_arg4 : FVec F S128x2048 .f32) : IVec S_ 1 :=
  let main_c : IVec S_ 32 := constantI S_ 32 0#32
  let main_v0 : IVec S128 32 := broadcastInDim S128 ![] bcast_S_S128 main_c
  let main_v1 : IVec S128 1 := cmpi .sge main_arg2 main_v0
  let main_c_0 : IVec S_ 32 := constantI S_ 32 65536#32
  let main_v2 : IVec S128 32 := broadcastInDim S128 ![] bcast_S_S128 main_c_0
  let main_v3 : IVec S128 1 := cmpi .sle main_arg2 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  let main_c_2 : IVec S_ 32 := constantI S_ 32 0#32
  let main_v6 : IVec S_ 32 := (fun x v => Host.reduce IntOp.addi x v reducesTo_S128_S_d0 h_S_) main_arg2 main_c_2
  let main_c_3 : IVec S_ 32 := constantI S_ 32 65536#32
  let main_v7 : IVec S_ 1 := cmpi .eq main_v6 main_c_3
  let main_v8 : IVec S_ 1 := andi main_v5 main_v7
  main_v8
-- ==== Kernel.lean ====
abbrev S65536x768 : Shape := ⟨2, ![65536, 768]⟩
abbrev S65536x1 : Shape := ⟨2, ![65536, 1]⟩
abbrev S128 : Shape := ⟨1, ![128]⟩
abbrev S128x768x2048 : Shape := ⟨3, ![128, 768, 2048]⟩
abbrev S128x2048 : Shape := ⟨2, ![128, 2048]⟩
abbrev S_ : Shape := ⟨0, ![]⟩
abbrev S383 : Shape := ⟨1, ![383]⟩
abbrev S1x383 : Shape := ⟨2, ![1, 383]⟩
abbrev S128x1 : Shape := ⟨2, ![128, 1]⟩
abbrev S128x383 : Shape := ⟨2, ![128, 383]⟩
abbrev S1 : Shape := ⟨1, ![1]⟩
abbrev S383x1 : Shape := ⟨2, ![383, 1]⟩
abbrev S128x1x2048 : Shape := ⟨3, ![128, 1, 2048]⟩
abbrev S65536x2048 : Shape := ⟨2, ![65536, 2048]⟩
abbrev S256x768 : Shape := ⟨2, ![256, 768]⟩
abbrev S256x1 : Shape := ⟨2, ![256, 1]⟩
abbrev S1x768x2048 : Shape := ⟨3, ![1, 768, 2048]⟩
abbrev S1x1x2048 : Shape := ⟨3, ![1, 1, 2048]⟩
abbrev S256x2048 : Shape := ⟨2, ![256, 2048]⟩
abbrev S768x2048 : Shape := ⟨2, ![768, 2048]⟩
abbrev S1x2048 : Shape := ⟨2, ![1, 2048]⟩

abbrev nBuf : Space → Nat
  | .hbm => 134
  | .vmem => 10
  | .smem => 4
  | _ => 0

abbrev hbmTy0_0 (i : Nat) : BufTy := match i % 128 with
  | 0 => ⟨S65536x768, .fp8e4m3⟩
  | 1 => ⟨S65536x1, .f32⟩
  | 2 => ⟨S128, .i32⟩
  | 3 => ⟨S128x768x2048, .fp8e4m3⟩
  | 4 => ⟨S128x2048, .f32⟩
  | 5 => ⟨S_, .i32⟩
  | 6 => ⟨S_, .i32⟩
  | 7 => ⟨S128, .i32⟩
  | 8 => ⟨S128, .i32⟩
  | 9 => ⟨S_, .i32⟩
  | 10 => ⟨S_, .i32⟩
  | 11 => ⟨S128, .i32⟩
  | 12 => ⟨S128, .i32⟩
  | 13 => ⟨S128, .i32⟩
  | 14 => ⟨S_, .i32⟩
  | 15 => ⟨S128, .i32⟩
  | 16 => ⟨S128, .i1⟩
  | 17 => ⟨S128, .i32⟩
  | 18 => ⟨S128, .i32⟩
  | 19 => ⟨S_, .i32⟩
  | 20 => ⟨S128, .i32⟩
  | 21 => ⟨S128, .i1⟩
  | 22 => ⟨S128, .i1⟩
  | 23 => ⟨S_, .i32⟩
  | 24 => ⟨S128, .i32⟩
  | 25 => ⟨S128, .i32⟩
  | 26 => ⟨S128, .i32⟩
  | 27 => ⟨S_, .i32⟩
  | 28 => ⟨S128, .i32⟩
  | 29 => ⟨S128, .i32⟩
  | 30 => ⟨S_, .i32⟩
  | 31 => ⟨S_, .i32⟩
  | 32 => ⟨S128, .i32⟩
  | 33 => ⟨S128, .i32⟩
  | 34 => ⟨S128, .i32⟩
  | 35 => ⟨S_, .i32⟩
  | 36 => ⟨S128, .i32⟩
  | 37 => ⟨S128, .i1⟩
  | 38 => ⟨S128, .i32⟩
  | 39 => ⟨S128, .i32⟩
  | 40 => ⟨S_, .i32⟩
  | 41 => ⟨S128, .i32⟩
  | 42 => ⟨S128, .i1⟩
  | 43 => ⟨S128, .i1⟩
  | 44 => ⟨S_, .i32⟩
  | 45 => ⟨S128, .i32⟩
  | 46 => ⟨S128, .i32⟩
  | 47 => ⟨S128, .i32⟩
  | 48 => ⟨S_, .i32⟩
  | 49 => ⟨S128, .i32⟩
  | 50 => ⟨S128, .i1⟩
  | 51 => ⟨S128, .i32⟩
  | 52 => ⟨S_, .i32⟩
  | 53 => ⟨S128, .i32⟩
  | 54 => ⟨S128, .i32⟩
  | 55 => ⟨S_, .i32⟩
  | 56 => ⟨S_, .i32⟩
  | 57 => ⟨S128, .i32⟩
  | 58 => ⟨S128, .i32⟩
  | 59 => ⟨S_, .i32⟩
  | 60 => ⟨S_, .i32⟩
  | 61 => ⟨S128, .i32⟩
  | 62 => ⟨S128, .i32⟩
  | 63 => ⟨S383, .i32⟩
  | 64 => ⟨S1x383, .i32⟩
  | 65 => ⟨S128x1, .i32⟩
  | 66 => ⟨S128x383, .i32⟩
  | 67 => ⟨S128x383, .i32⟩
  | 68 => ⟨S128x383, .i1⟩
  | 69 => ⟨S128x383, .i32⟩
  | 70 => ⟨S_, .i32⟩
  | 71 => ⟨S383, .i32⟩
  | 72 => ⟨S_, .i32⟩
  | 73 => ⟨S383, .i32⟩
  | 74 => ⟨S383, .i1⟩
  | 75 => ⟨S1, .i32⟩
  | 76 => ⟨S_, .i32⟩
  | 77 => ⟨S_, .i32⟩
  | 78 => ⟨S_, .i32⟩
  | 79 => ⟨S128, .i32⟩
  | 80 => ⟨S128, .i1⟩
  | 81 => ⟨S128, .i32⟩
  | 82 => ⟨S_, .i32⟩
  | 83 => ⟨S_, .i32⟩
  | 84 => ⟨S383, .i32⟩
  | 85 => ⟨S_, .i32⟩
  | 86 => ⟨S383, .i32⟩
  | 87 => ⟨S383, .i1⟩
  | 88 => ⟨S_, .i32⟩
  | 89 => ⟨S383, .i32⟩
  | 90 => ⟨S383, .i32⟩
  | 91 => ⟨S383, .i32⟩
  | 92 => ⟨S383x1, .i32⟩
  | 93 => ⟨S383, .i32⟩
  | 94 => ⟨S383, .i32⟩
  | 95 => ⟨S_, .i32⟩
  | 96 => ⟨S383, .i32⟩
  | 97 => ⟨S383, .i1⟩
  | 98 => ⟨S_, .i32⟩
  | 99 => ⟨S383, .i32⟩
  | 100 => ⟨S383, .i32⟩
  | 101 => ⟨S383, .i32⟩
  | 102 => ⟨S383x1, .i32⟩
  | 103 => ⟨S383, .i32⟩
  | 104 => ⟨S383, .i32⟩
  | 105 => ⟨S_, .i32⟩
  | 106 => ⟨S_, .i32⟩
  | 107 => ⟨S383, .i32⟩
  | 108 => ⟨S_, .i32⟩
  | 109 => ⟨S383, .i32⟩
  | 110 => ⟨S383, .i1⟩
  | 111 => ⟨S_, .i32⟩
  | 112 => ⟨S383, .i32⟩
  | 113 => ⟨S383, .i32⟩
  | 114 => ⟨S383, .i32⟩
  | 115 => ⟨S383x1, .i32⟩
  | 116 => ⟨S383, .i32⟩
  | 117 => ⟨S_, .i32⟩
  | 118 => ⟨S_, .i32⟩
  | 119 => ⟨S383, .i32⟩
  | 120 => ⟨S_, .i32⟩
  | 121 => ⟨S383, .i32⟩
  | 122 => ⟨S383, .i1⟩
  | 123 => ⟨S_, .i32⟩
  | 124 => ⟨S383, .i32⟩
  | 125 => ⟨S383, .i32⟩
  | 126 => ⟨S383, .i32⟩
  | 127 => ⟨S383x1, .i32⟩
  | _ => ⟨S65536x768, .fp8e4m3⟩

abbrev hbmTy0_1 (i : Nat) : BufTy := match i % 128 with
  | 0 => ⟨S383, .i32⟩
  | 1 => ⟨S_, .i32⟩
  | 2 => ⟨S_, .i32⟩
  | 3 => ⟨S383, .i32⟩
  | 4 => ⟨S128x1x2048, .f32⟩
  | 5 => ⟨S65536x2048, .bf16⟩
  | _ => ⟨S65536x768, .fp8e4m3⟩

abbrev hbmTy (i : Nat) : BufTy := match i / 128 with
  | 0 => hbmTy0_0 i
  | 1 => hbmTy0_1 i
  | _ => ⟨S65536x768, .fp8e4m3⟩

abbrev bufTy : (tb : Table) → Fin (tcTables nBuf tb) → BufTy
  | .hbm, ⟨i, _⟩ => hbmTy i
  | .local _ .vmem, ⟨0, _⟩ => ⟨S256x768, .fp8e4m3⟩
  | .local _ .vmem, ⟨1, _⟩ => ⟨S256x768, .fp8e4m3⟩
  | .local _ .vmem, ⟨2, _⟩ => ⟨S256x1, .f32⟩
  | .local _ .vmem, ⟨3, _⟩ => ⟨S256x1, .f32⟩
  | .local _ .vmem, ⟨4, _⟩ => ⟨S1x768x2048, .fp8e4m3⟩
  | .local _ .vmem, ⟨5, _⟩ => ⟨S1x768x2048, .fp8e4m3⟩
  | .local _ .vmem, ⟨6, _⟩ => ⟨S1x1x2048, .f32⟩
  | .local _ .vmem, ⟨7, _⟩ => ⟨S1x1x2048, .f32⟩
  | .local _ .vmem, ⟨8, _⟩ => ⟨S256x2048, .bf16⟩
  | .local _ .vmem, ⟨9, _⟩ => ⟨S256x2048, .bf16⟩
  | .local _ .smem, ⟨0, _⟩ => ⟨S383, .i32⟩
  | .local _ .smem, ⟨1, _⟩ => ⟨S383, .i32⟩
  | .local _ .smem, ⟨2, _⟩ => ⟨S383, .i32⟩
  | .local _ .smem, ⟨3, _⟩ => ⟨S383, .i32⟩
  | _, _ => ⟨S65536x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v5 : Ref sig .tc := ⟨.hbm, 47, rfl⟩
abbrev main_c_2 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_call5_call0_v0 : Ref sig .tc := ⟨.hbm, 64, rfl⟩
abbrev main_call5_call0_v1 : Ref sig .tc := ⟨.hbm, 65, rfl⟩
abbrev main_call5_call0_v2 : Ref sig .tc := ⟨.hbm, 66, rfl⟩
abbrev main_call5_call0_v3 : Ref sig .tc := ⟨.hbm, 67, rfl⟩
abbrev main_call5_call0_v4 : Ref sig .tc := ⟨.hbm, 68, rfl⟩
abbrev main_call5_call0_v5 : Ref sig .tc := ⟨.hbm, 69, rfl⟩
abbrev main_call5_call0_c : Ref sig .tc := ⟨.hbm, 70, rfl⟩
abbrev main_v15 : Ref sig .tc := ⟨.hbm, 71, rfl⟩
abbrev main_c_5 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_c_6 : Ref sig .tc := ⟨.hbm, 77, rfl⟩
abbrev main_v20 : Ref sig .tc := ⟨.hbm, 78, rfl⟩
abbrev main_call6_call0_v0 : Ref sig .tc := ⟨.hbm, 79, rfl⟩
abbrev main_call6_call0_v1 : Ref sig .tc := ⟨.hbm, 80, rfl⟩
abbrev main_call6_call0_v2 : Ref sig .tc := ⟨.hbm, 81, rfl⟩
abbrev main_call6_call0_c : Ref sig .tc := ⟨.hbm, 82, rfl⟩
abbrev main_v21 : Ref sig .tc := ⟨.hbm, 83, rfl⟩
abbrev main_call7_v0 : Ref sig .tc := ⟨.hbm, 84, rfl⟩
abbrev main_c_7 : Ref sig .tc := ⟨.hbm, 85, rfl⟩
abbrev main_v23 : Ref sig .tc := ⟨.hbm, 86, rfl⟩
abbrev main_v24 : Ref sig .tc := ⟨.hbm, 87, rfl⟩
abbrev main_c_8 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_c_9 : Ref sig .tc := ⟨.hbm, 95, rfl⟩
abbrev main_v31 : Ref sig .tc := ⟨.hbm, 96, rfl⟩
abbrev main_v32 : Ref sig .tc := ⟨.hbm, 97, rfl⟩
abbrev main_c_10 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_c_11 : Ref sig .tc := ⟨.hbm, 105, rfl⟩
abbrev main_call8_v0 : Ref sig .tc := ⟨.hbm, 106, rfl⟩
abbrev main_call8_v1 : Ref sig .tc := ⟨.hbm, 107, rfl⟩
abbrev main_c_12 : Ref sig .tc := ⟨.hbm, 108, rfl⟩
abbrev main_v40 : Ref sig .tc := ⟨.hbm, 109, rfl⟩
abbrev main_v41 : Ref sig .tc := ⟨.hbm, 110, rfl⟩
abbrev main_c_13 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_c_14 : Ref sig .tc := ⟨.hbm, 117, rfl⟩
abbrev main_call9_v0 : Ref sig .tc := ⟨.hbm, 118, rfl⟩
abbrev main_call9_v1 : Ref sig .tc := ⟨.hbm, 119, rfl⟩
abbrev main_c_15 : Ref sig .tc := ⟨.hbm, 120, rfl⟩
abbrev main_v48 : Ref sig .tc := ⟨.hbm, 121, rfl⟩
abbrev main_v49 : Ref sig .tc := ⟨.hbm, 122, rfl⟩
abbrev main_c_16 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_c_17 : Ref sig .tc := ⟨.hbm, 129, rfl⟩
abbrev main_call10_v0 : Ref sig .tc := ⟨.hbm, 130, rfl⟩
abbrev main_call10_v1 : Ref sig .tc := ⟨.hbm, 131, rfl⟩
abbrev main_v56 : Ref sig .tc := ⟨.hbm, 132, rfl⟩
abbrev main_v57 : Ref sig .tc := ⟨.hbm, 133, rfl⟩
abbrev main_v22 : Ref sig .tc := ⟨.smem, 0, rfl⟩
abbrev main_v39 : Ref sig .tc := ⟨.smem, 1, rfl⟩
abbrev main_v47 : Ref sig .tc := ⟨.smem, 2, rfl⟩
abbrev main_v55 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![383], ![false]⟩

abbrev pre0 : Pipeline.Prefetch sig := ⟨4, ![main_v22.idx, main_v39.idx, main_v47.idx, main_v55.idx], fun | 0 => main_v22.names | 1 => main_v39.names | 2 => main_v47.names | 3 => main_v55.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) (v4 : BitVec 32) (v6 : BitVec 32) : BitVec 1 :=
  let c256_i32 : BitVec 32 := 256#32
  let v2 : BitVec 32 := Scalar.muli v1 c256_i32
  let v7 : BitVec 1 := Scalar.cmpi .sle v4 v2
  let c256_i32_0 : BitVec 32 := 256#32
  let v8 : BitVec 32 := Scalar.addi v2 c256_i32_0
  let v9 : BitVec 1 := Scalar.cmpi .sge v6 v8
  let v10 : BitVec 1 := Scalar.andi v7 v9
  let v11 : BitVec 32 := Scalar.extui v10
  let c0_i32 : BitVec 32 := 0#32
  let v12 : BitVec 1 := Scalar.cmpi .ne v11 c0_i32
  v12

def k0_cond2 (v1 : BitVec 32) (v4 : BitVec 32) (v6 : BitVec 32) : BitVec 1 :=
  let c256_i32 : BitVec 32 := 256#32
  let v2 : BitVec 32 := Scalar.muli v1 c256_i32
  let v7 : BitVec 1 := Scalar.cmpi .sle v4 v2
  let c256_i32_0 : BitVec 32 := 256#32
  let v8 : BitVec 32 := Scalar.addi v2 c256_i32_0
  let v9 : BitVec 1 := Scalar.cmpi .sge v6 v8
  let v10 : BitVec 1 := Scalar.andi v7 v9
  let v_true : BitVec 1 := 1#1
  let v13 : BitVec 1 := Scalar.xori v10 v_true
  let v14 : BitVec 1 := Scalar.cmpi .sgt v6 v4
  let v15 : BitVec 1 := Scalar.andi v13 v14
  let v16 : BitVec 32 := Scalar.extui v15
  let c0_i32_1 : BitVec 32 := 0#32
  let v17 : BitVec 1 := Scalar.cmpi .ne v16 c0_i32_1
  v17

def cc0_transform_0 (k0_off1_inb : ∀ i : grid0.Coords, ∀ a, (k0_off1 i) a + S1.size a ≤ S383.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S383) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S383.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S383) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S383.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S383) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S383.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S383) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S383.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S383) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x768 : Shape := ⟨2, ![65536, 768]⟩
abbrev S65536x1 : Shape := ⟨2, ![65536, 1]⟩
abbrev S128 : Shape := ⟨1, ![128]⟩
abbrev S128x768x2048 : Shape := ⟨3, ![128, 768, 2048]⟩
abbrev S128x2048 : Shape := ⟨2, ![128, 2048]⟩
abbrev S65536x2048 : Shape := ⟨2, ![65536, 2048]⟩
abbrev S1 : Shape := ⟨1, ![1]⟩
abbrev S1x768x2048 : Shape := ⟨3, ![1, 768, 2048]⟩
abbrev S768x2048 : Shape := ⟨2, ![768, 2048]⟩
abbrev S1x2048 : Shape := ⟨2, ![1, 2048]⟩

abbrev nBuf : Space → Nat
  | .hbm => 6
  | .vmem => 5
  | .smem => 1
  | _ => 0

abbrev bufTy : (tb : Table) → Fin (tcTables nBuf tb) → BufTy
  | .hbm, ⟨0, _⟩ => ⟨S65536x768, .fp8e4m3⟩
  | .hbm, ⟨1, _⟩ => ⟨S65536x1, .f32⟩
  | .hbm, ⟨2, _⟩ => ⟨S128, .i32⟩
  | .hbm, ⟨3, _⟩ => ⟨S128x768x2048, .fp8e4m3⟩
  | .hbm, ⟨4, _⟩ => ⟨S128x2048, .f32⟩
  | .hbm, ⟨5, _⟩ => ⟨S65536x2048, .bf16⟩
  | .local _ .vmem, ⟨0, _⟩ => ⟨S65536x768, .fp8e4m3⟩
  | .local _ .vmem, ⟨1, _⟩ => ⟨S65536x1, .f32⟩
  | .local _ .vmem, ⟨2, _⟩ => ⟨S128x768x2048, .fp8e4m3⟩
  | .local _ .vmem, ⟨3, _⟩ => ⟨S128x2048, .f32⟩
  | .local _ .vmem, ⟨4, _⟩ => ⟨S65536x2048, .bf16⟩
  | .local _ .smem, ⟨0, _⟩ => ⟨S128, .i32⟩
  | _, _ => ⟨S65536x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c128_i32 : BitVec 32 := 128#32
  let v3 : BitVec 32 := Scalar.addi c0_i32_1 c128_i32
  let c1_i32 : BitVec 32 := 1#32
  ⟨c0_i32_1, v3, c1_i32⟩
def k0_off1 (k0_t1 : Fin k0_t1_loop.trips) : Fin 1 → Nat :=
  let c0_i32_1 : BitVec 32 := 0#32
  let c1_i32 : BitVec 32 := 1#32
  let arg6 : BitVec 32 := Scf.iv c0_i32_1 c1_i32 k0_t1
  let v5 : Index := Scalar.indexCast arg6
  ![v5.toNat]
def k0_off2 (k0_t1 : Fin k0_t1_loop.trips) : Fin 3 → Nat :=
  let c0_i32_1 : BitVec 32 := 0#32
  let c1_i32 : BitVec 32 := 1#32
  let arg6 : BitVec 32 := Scf.iv c0_i32_1 c1_i32 k0_t1
  let v9 : Index := Scalar.indexCast arg6
  let c0_5 : Index := 0#32
  let c0_6 : Index := 0#32
  ![v9.toNat, 0, 0]
def k0_off3 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let v16 : Index := Scalar.indexCast arg6
  let c0_10 : Index := 0#32
  ![v16.toNat, 0]
abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x768x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Visits.lean ====
/-
  The arithmetic of the visits, over natural numbers.

  128 groups of rows, sizes `s e`, lie one after another; together they fill 65536 rows. The rows are cut into 256 tiles of
  256 rows. A VISIT is a pair of a group and a tile that share a row, and the visits are numbered in order: group by group,
  and the tiles of a group from its first to its last. There are at most 383 visits; a number at or past their count is
  DEAD: it repeats the last group and the last tile with an empty range of rows. This module proves what the kernel's tables
  say of each number and that the rows which a sequence of visits has filled grow as the kernel needs.
-/
module

public import Idealize.ShloMosaic.Lib.Routing.Ops

@[expose] public section

namespace Cert.Visits

/-- The sum of the first `n` values of `f`. -/
def psum (f : ℕ → ℕ) (n : ℕ) : ℕ := ((List.range n).map f).sum

theorem psum_zero (f : ℕ → ℕ) : psum f 0 = 0 := rfl

theorem psum_succ (f : ℕ → ℕ) (n : ℕ) : psum f (n + 1) = psum f n + f n := by
  unfold psum
  rw [List.range_succ, List.map_append, List.sum_append]
  simp

theorem psum_mono (f : ℕ → ℕ) {a b : ℕ} (h : a ≤ b) : psum f a ≤ psum f b := by
  induction b, h using Nat.le_induction with
  | base => exact le_rfl
  | succ n _ ih => rw [psum_succ]; omega

/-- How many of the first `n` numbers satisfy a property that holds below `k` and fails from `k` on. -/
theorem count_below (p : ℕ → Prop) [DecidablePred p] (n k : ℕ) (hk : k ≤ n) (h1 : ∀ e < k, p e) (h2 : ∀ e, k ≤ e → e < n → ¬ p e) :
    Nat.count p n = k := by
  induction n with
  | zero => simp at hk; subst hk; rfl
  | succ n ih =>
    rw [Nat.count_succ]
    rcases Nat.lt_or_ge n k with h | h
    · obtain rfl : k = n + 1 := by omega
      have : Nat.count p n = n := by
        rw [Nat.count_iff_forall]; exact fun n' hn' => h1 n' (by omega)
      rw [this, if_pos (h1 n (by omega))]
    · rw [ih h (fun e h3 h4 => h2 e h3 (by omega)), if_neg (h2 n h (by omega)), Nat.add_zero]

/-- The number, among the first 128, whose stretch of length `f e` holds position `v` — 128 past the last stretch. -/
def owner (f : ℕ → ℕ) (v : ℕ) : ℕ := Nat.count (fun e => psum f (e + 1) ≤ v) 128

theorem owner_eq (f : ℕ → ℕ) {v e : ℕ} (he : e < 128) (h1 : psum f e ≤ v) (h2 : v < psum f (e + 1)) : owner f v = e := by
  refine count_below _ _ _ (by omega) (fun e' h => ?_) (fun e' h _ => ?_)
  · have := psum_mono f (show e' + 1 ≤ e by omega); omega
  · have := psum_mono f (show e + 1 ≤ e' + 1 by omega); omega

theorem owner_past (f : ℕ → ℕ) {v : ℕ} (h : psum f 128 ≤ v) : owner f v = 128 := by
  refine count_below _ _ _ le_rfl (fun e' h' => ?_) (fun e' h1 h2 => by omega)
  have := psum_mono f (show e' + 1 ≤ 128 by omega); omega

theorem exists_stretch (f : ℕ → ℕ) (n v : ℕ) (h : v < psum f n) : ∃ e, e < n ∧ psum f e ≤ v ∧ v < psum f (e + 1) := by
  induction n with
  | zero => rw [psum_zero] at h; omega
  | succ n ih =>
    rcases Nat.lt_or_ge v (psum f n) with h' | h'
    · obtain ⟨e, h1, h2⟩ := ih h'; exact ⟨e, by omega, h2⟩
    · exact ⟨n, by omega, h', h⟩

/-- Below the total, the owner's stretch holds the position. -/
theorem owner_spec (f : ℕ → ℕ) {v : ℕ} (h : v < psum f 128) :
    owner f v < 128 ∧ psum f (owner f v) ≤ v ∧ v < psum f (owner f v + 1) := by
  obtain ⟨e, he, h1, h2⟩ := exists_stretch f 128 v h
  rw [owner_eq f he h1 h2]; exact ⟨he, h1, h2⟩

theorem owner_lt_iff (f : ℕ → ℕ) (v : ℕ) : owner f v < 128 ↔ v < psum f 128 := by
  rcases Nat.lt_or_ge v (psum f 128) with h | h
  · exact ⟨fun _ => h, fun _ => (owner_spec f h).1⟩
  · rw [owner_past f h]; omega

variable (s : ℕ → ℕ)

/-- The first and the last tile of group `e`, the second for a group that is not empty. -/
def fst (e : ℕ) : ℕ := psum s e / 256
def lst (e : ℕ) : ℕ := (psum s (e + 1) - 1) / 256
/-- How many tiles group `e` touches. -/
def cnt (e : ℕ) : ℕ := if 0 < s e then lst s e + 1 - fst s e else 0

/-- What the four tables hold at number `v`: group, tile, first row, end row. -/
def tG (v : ℕ) : ℕ := if owner (cnt s) v < 128 then owner (cnt s) v else owner (cnt s) (psum (cnt s) 128 - 1)
def tT (v : ℕ) : ℕ := if owner (cnt s) v < 128 then fst s (owner (cnt s) v) + v - psum (cnt s) (owner (cnt s) v) else 255
def tL (v : ℕ) : ℕ := if owner (cnt s) v < 128 then psum s (owner (cnt s) v) else 0
def tH (v : ℕ) : ℕ := if owner (cnt s) v < 128 then psum s (owner (cnt s) v + 1) else 0
/-- The rows below `hiE v` are filled once visit `v` is done. -/
def hiE (v : ℕ) : ℕ := if owner (cnt s) v < 128 then psum s (owner (cnt s) v + 1) else 65536

theorem fst_le_lst (e : ℕ) (h : 0 < s e) : fst s e ≤ lst s e := by
  unfold fst lst; rw [psum_succ]; omega

/-- The visits of the first `n` groups: at most one per group beyond the tiles they touch. -/
theorem psum_cnt_le (n : ℕ) : (psum s n = 0 → psum (cnt s) n = 0) ∧ (0 < psum s n → psum (cnt s) n ≤ (psum s n - 1) / 256 + n) := by
  induction n with
  | zero => exact ⟨fun _ => rfl, fun h => by rw [psum_zero] at h; omega⟩
  | succ n ih =>
    obtain ⟨i1, i2⟩ := ih
    rw [psum_succ (cnt s)]
    rcases Nat.eq_zero_or_pos (s n) with h0 | h0
    · have hc : cnt s n = 0 := if_neg (by omega)
      rw [psum_succ s, h0, hc, Nat.add_zero, Nat.add_zero]
      exact ⟨i1, fun h => by have := i2 h; omega⟩
    · have hc : cnt s n = lst s n + 1 - fst s n := if_pos h0
      refine ⟨fun h => by rw [psum_succ s] at h; omega, fun _ => ?_⟩
      rw [hc]
      unfold lst fst
      rw [psum_succ s]
      rcases Nat.eq_zero_or_pos (psum s n) with h1 | h1
      · rw [i1 h1, h1]; omega
      · have := i2 h1
        omega

variable {s} (hs : psum s 128 = 65536)

include hs in
theorem total_le : psum (cnt s) 128 ≤ 383 := by
  have := (psum_cnt_le s 128).2 (by omega)
  rw [hs] at this; omega

include hs in
/-- Some group is not empty, so there is a visit. -/
theorem total_pos : 0 < psum (cnt s) 128 := by
  obtain ⟨e, he, h1, h2⟩ := exists_stretch s 128 0 (by omega)
  have hse : 0 < s e := by rw [psum_succ] at h2; omega
  have h3 := psum_mono (cnt s) (show e + 1 ≤ 128 by omega)
  have h4 : cnt s e = lst s e + 1 - fst s e := if_pos hse
  have := fst_le_lst s e hse
  rw [psum_succ] at h3; omega

theorem cnt_pos {e : ℕ} (h : 0 < cnt s e) : 0 < s e := by
  by_contra h'; rw [cnt, if_neg h'] at h; omega

/-- A live visit, its group and its tile. -/
theorem live_spec {v : ℕ} (h : v < psum (cnt s) 128) : ∃ e, e < 128 ∧ owner (cnt s) v = e ∧ 0 < s e ∧ psum (cnt s) e ≤ v ∧ v < psum (cnt s) (e + 1)
    ∧ psum (cnt s) (e + 1) = psum (cnt s) e + (lst s e + 1 - fst s e)
    ∧ fst s e ≤ lst s e ∧ tG s v = e ∧ tT s v = fst s e + (v - psum (cnt s) e) ∧ tL s v = psum s e ∧ tH s v = psum s (e + 1) ∧ hiE s v = psum s (e + 1) := by
  obtain ⟨h1, h2, h3⟩ := owner_spec (cnt s) h
  have hse : 0 < s (owner (cnt s) v) := cnt_pos (by rw [psum_succ] at h3; omega)
  have hc : cnt s (owner (cnt s) v) = lst s (owner (cnt s) v) + 1 - fst s (owner (cnt s) v) := if_pos hse
  refine ⟨_, h1, rfl, hse, h2, h3, by rw [psum_succ, hc], fst_le_lst s _ hse, if_pos h1, ?_, if_pos h1, if_pos h1, if_pos h1⟩
  rw [tT, if_pos h1]; omega

/-- A dead number repeats the last group and the last tile, its rows none. -/
theorem dead_spec {v : ℕ} (h : psum (cnt s) 128 ≤ v) : tG s v = owner (cnt s) (psum (cnt s) 128 - 1) ∧ tT s v = 255 ∧ tL s v = 0 ∧ tH s v = 0 ∧ hiE s v = 65536 := by
  have := owner_past (cnt s) h
  unfold tG tT tL tH hiE
  rw [this]; simp

include hs in
theorem lst_lt {e : ℕ} (he : e < 128) : lst s e < 256 := by
  have := psum_mono s (show e + 1 ≤ 128 by omega)
  unfold lst; omega

include hs in
theorem tG_lt (v : ℕ) : tG s v < 128 := by
  rcases Nat.lt_or_ge v (psum (cnt s) 128) with h | h
  · obtain ⟨e, he, -, -, -, -, -, -, hg, -⟩ := live_spec h; omega
  · rw [(dead_spec h).1]
    exact (owner_spec (cnt s) (by have := total_pos hs; omega)).1

include hs in
theorem tT_lt (v : ℕ) : tT s v < 256 := by
  rcases Nat.lt_or_ge v (psum (cnt s) 128) with h | h
  · obtain ⟨e, he, -, -, h1, h2, h3, h4, hg, ht, -⟩ := live_spec h
    have := lst_lt hs he
    omega
  · rw [(dead_spec h).2.1]; omega

include hs in
theorem tL_le (v : ℕ) : tL s v ≤ 65536 := by
  unfold tL; split
  · rename_i h; have := psum_mono s (show owner (cnt s) v ≤ 128 by omega); omega
  · omega
include hs in
theorem tH_le (v : ℕ) : tH s v ≤ 65536 := by
  unfold tH; split
  · rename_i h; have := psum_mono s (show owner (cnt s) v + 1 ≤ 128 by omega); omega
  · omega

/-- From a group on: rows that end where the visits end. If the groups between contribute no visit they hold no row. -/
theorem psum_eq_of_cnt (a b : ℕ) (hab : a ≤ b) (h : psum (cnt s) b = psum (cnt s) a) : psum s b = psum s a := by
  induction b, hab using Nat.le_induction with
  | base => rfl
  | succ n hn ih =>
    rw [psum_succ] at h
    have h1 := psum_mono (cnt s) hn
    have h0 : s n = 0 := by
      by_contra h'
      have hc : cnt s n = lst s n + 1 - fst s n := if_pos (by omega)
      have := fst_le_lst s n (by omega)
      omega
    rw [psum_succ, h0, ih (by omega)]; omega

include hs in
/-- THE STEP from a live visit `v` that is its group's last: the next number's rows begin where these end. -/
theorem next_group {v e : ℕ} (he : e < 128) (hv : v + 1 = psum (cnt s) (e + 1)) (_hse : 0 < s e) :
    (v + 1 < psum (cnt s) 128 ∧ ∃ e', owner (cnt s) (v + 1) = e' ∧ v + 1 = psum (cnt s) e' ∧ psum s e' = psum s (e + 1))
    ∨ (psum (cnt s) 128 ≤ v + 1 ∧ psum s (e + 1) = 65536) := by
  rcases Nat.lt_or_ge (v + 1) (psum (cnt s) 128) with h | h
  · left
    obtain ⟨e', he', ho, -, h1, h2, -⟩ := live_spec h
    refine ⟨h, e', ho, ?_, ?_⟩
    · by_contra hne
      have : ¬ e' + 1 ≤ e + 1 := fun hle => by have := psum_mono (cnt s) hle; omega
      have := psum_mono (cnt s) (show e + 1 ≤ e' by omega)
      omega
    · have : ¬ e' + 1 ≤ e + 1 := fun hle => by have := psum_mono (cnt s) hle; omega
      have h3 := psum_mono (cnt s) (show e + 1 ≤ e' by omega)
      exact psum_eq_of_cnt _ _ (by omega) (by omega)
  · right
    refine ⟨h, ?_⟩
    have h3 := psum_mono (cnt s) (show e + 1 ≤ 128 by omega)
    rw [← psum_eq_of_cnt (e + 1) 128 (by omega) (by omega), hs]

include hs in
/-- Before a live visit that begins inside its tile there is a live visit of the same tile, ending at this one's first row. -/
theorem prev_same {v : ℕ} (h : v < psum (cnt s) 128) (hin : 256 * tT s v < tL s v) :
    ∃ u, v = u + 1 ∧ tT s u = tT s v ∧ hiE s u = tL s v ∧ u < psum (cnt s) 128 := by
  obtain ⟨e, he, ho, hse, h1, h2, h3, h4, hg, ht, hl, hh, hE⟩ := live_spec h
  rw [ht, hl] at hin
  have hf : fst s e = psum s e / 256 := rfl
  have hve : v = psum (cnt s) e := by
    have : fst s e + (v - psum (cnt s) e) ≤ fst s e := by rw [hf] at hin ⊢; omega
    omega
  have hpos : 0 < v := by
    by_contra h0
    have h0 : psum (cnt s) e = psum (cnt s) 0 := by rw [psum_zero]; omega
    have := psum_eq_of_cnt 0 e (by omega) h0
    rw [psum_zero] at this; omega
  obtain ⟨u, rfl⟩ : ∃ u, v = u + 1 := ⟨v - 1, by omega⟩
  have hu : u < psum (cnt s) 128 := by omega
  obtain ⟨d, hd, do', dse, d1, d2, d3, d4, dg, dt, dl, dh, dE⟩ := live_spec hu
  have hde : d + 1 ≤ e := by
    by_contra hle
    have := psum_mono (cnt s) (show e ≤ d by omega); omega
  have hlast : u + 1 = psum (cnt s) (d + 1) := by
    have := psum_mono (cnt s) hde; omega
  have hrows : psum s e = psum s (d + 1) := psum_eq_of_cnt _ _ hde (by omega)
  refine ⟨u, rfl, ?_, by rw [dE, hl, hrows], hu⟩
  rw [dt, ht]
  have : u - psum (cnt s) d = lst s d - fst s d := by omega
  rw [this]
  have h5 : lst s d = (psum s e - 1) / 256 := by rw [hrows]; rfl
  rw [hve, Nat.sub_self, Nat.add_zero] at hin
  rw [hve, Nat.sub_self]
  omega

include hs in
/-- A dead number comes after a number of the same tile, both with every row filled. -/
theorem prev_dead {v : ℕ} (h : psum (cnt s) 128 ≤ v) : ∃ u, v = u + 1 ∧ tT s u = 255 ∧ hiE s u = 65536 := by
  have hp := total_pos hs
  obtain ⟨u, rfl⟩ : ∃ u, v = u + 1 := ⟨v - 1, by omega⟩
  refine ⟨u, rfl, ?_⟩
  rcases Nat.lt_or_ge u (psum (cnt s) 128) with hu | hu
  · obtain ⟨d, hd, do', dse, d1, d2, d3, d4, dg, dt, dl, dh, dE⟩ := live_spec hu
    have h6 := psum_mono (cnt s) (show d + 1 ≤ 128 by omega)
    have h7 : psum s (d + 1) = 65536 := by
      rcases next_group hs hd (v := u) (by omega) dse with ⟨h', -⟩ | ⟨-, h'⟩
      · omega
      · exact h'
    refine ⟨?_, by rw [dE, h7]⟩
    rw [dt]
    have : lst s d = 255 := by unfold lst; rw [h7]
    omega
  · exact ⟨(dead_spec hu).2.1, (dead_spec hu).2.2.2.2⟩

include hs in
/-- Where the tile moves on after `v`, every row of `v`'s tile is filled. -/
theorem filled_of_moves {v : ℕ} (h : v + 1 = 383 ∨ tT s (v + 1) ≠ tT s v) : 256 * tT s v + 256 ≤ hiE s v := by
  rcases Nat.lt_or_ge v (psum (cnt s) 128) with hu | hu
  · obtain ⟨d, hd, do', dse, d1, d2, d3, d4, dg, dt, dl, dh, dE⟩ := live_spec hu
    rw [dE]
    have hl : lst s d = (psum s (d + 1) - 1) / 256 := rfl
    have hpos : 0 < psum s (d + 1) := by rw [psum_succ]; omega
    rcases Nat.lt_or_ge (v + 1) (psum (cnt s) (d + 1)) with h1 | h1
    · rw [dt]; omega
    · have htl : tT s v = lst s d := by omega
      rcases next_group hs hd (v := v) (by omega) dse with ⟨h2, e', h3, h4, h5⟩ | ⟨h2, h3⟩
      · obtain ⟨e, he, ho, hse, k1, k2, k3, k4, hg, ht, -⟩ := live_spec h2
        obtain rfl : e = e' := by omega
        have hne : tT s (v + 1) ≠ tT s v := by
          rcases h with h | h
          · have := total_le hs; omega
          · exact h
        have hf : fst s e = psum s (d + 1) / 256 := by rw [← h5]; rfl
        omega
      · rw [h3]; have := tT_lt hs v; omega
  · have := dead_spec hu
    have := tT_lt hs v
    omega

include hs in
/-- Every tile is visited, and there is a visit of it after which the tile moves on. -/
theorem exists_moves {q : ℕ} (hq : q < 256) : ∃ v, v < 383 ∧ tT s v = q ∧ (v + 1 = 383 ∨ tT s (v + 1) ≠ tT s v) := by
  have hT := total_le hs
  have h0 : ∃ v, v < 383 ∧ tT s v = q := by
    obtain ⟨e, he, h1, h2⟩ := exists_stretch s 128 (256 * q) (by omega)
    have hse : 0 < s e := by rw [psum_succ] at h2; omega
    have hc : cnt s e = lst s e + 1 - fst s e := if_pos hse
    have hf : fst s e = psum s e / 256 := rfl
    have hl : lst s e = (psum s (e + 1) - 1) / 256 := rfl
    have hm := psum_mono (cnt s) (show e + 1 ≤ 128 by omega)
    have hp := psum_succ (cnt s) e
    have hv : psum (cnt s) e + (q - fst s e) < psum (cnt s) (e + 1) := by omega
    refine ⟨psum (cnt s) e + (q - fst s e), by omega, ?_⟩
    have ho := owner_eq (cnt s) he (Nat.le_add_right _ (q - fst s e)) hv
    rw [tT, ho, if_pos he]; omega
  obtain ⟨v, hv, hq'⟩ := h0
  by_contra hno
  have hstay : ∀ n, v + n < 383 → tT s (v + n) = q := by
    intro n
    induction n with
    | zero => exact fun _ => hq'
    | succ n ih =>
      intro hn
      have h1 := ih (by omega)
      by_contra hne
      exact hno ⟨v + n, by omega, h1, Or.inr (by rw [h1]; exact hne)⟩
  exact hno ⟨382, by omega, by have := hstay (382 - v) (by omega); rwa [show v + (382 - v) = 382 by omega] at this, Or.inl rfl⟩

end Cert.Visits

end
-- ==== Proof.HostWords.lean ====
/-
  Vectors of 32-bit words that hold natural numbers (`Dec`), and what the operations of the host code do to them: the running
  sum, differences, the count of the entries at or below a bound, and the read at an index from a table.
-/
module

public import proofs.«01_k».proof.Proof.Visits
public import Idealize.ShloMosaic.Lib.Routing.Ops
public import Idealize.ShloMosaic.Lib.Routing.OpsSearch
public import Idealize.ShloMosaic.Lib.Routing.OpsPair

@[expose] public section

set_option maxRecDepth 16384

noncomputable section

namespace Cert.Visits

open Idealize.ShloMosaic Idealize.ShloMosaic.Routing

/-- The vector `x` of words holds the numbers `f`. -/
def Dec {n : ℕ} (x : IVec (shape1 n) 32) (f : ℕ → ℕ) : Prop := ∀ i : Fin n, x (ValueIdx.ix1 i) = BitVec.ofNat 32 (f i.val)

variable {n : ℕ} {x y : IVec (shape1 n) 32} {f g : ℕ → ℕ}

theorem Dec.congr (hx : Dec x f) (h : ∀ i < n, f i = g i) : Dec x g := fun i => by rw [hx i, h i i.isLt]

theorem Dec.sub (hx : Dec x f) (hy : Dec y g) (h : ∀ i < n, g i ≤ f i) : Dec (subi x y) (fun i => f i - g i) := fun i => by
  rw [subi_ap, hx i, hy i, ofNat32_sub (h i i.isLt)]

theorem Dec.add (hx : Dec x f) (hy : Dec y g) : Dec (addi x y) (fun i => f i + g i) := fun i => by
  rw [addi_ap, hx i, hy i, BitVec.ofNat_add]

/-- The running sum. -/
theorem Dec.cumsum {x : IVec (shape1 128) 32} (hx : Dec x f) (init : IVec shape0 32) (hinit : init ValueIdx.ix0 = 0#32)
    (h : (shape1 128).ReduceWindows (![128] : Fin 1 → Nat) ![1] ![127] ![0] (shape1 128)) (hu : 0 < shape0.numel) :
    Dec (Host.reduceWindow IntOp.addi ![128] ![1] ![127] ![0] x init h hu) (fun i => psum f (i + 1)) := fun i =>
  cumsum1 (Nm1 := 127) rfl x f hx init hinit h hu i

/-- Floor division by a positive constant, as it prints for a signed vector. -/
theorem floorDiv_at (hb : shape0.BroadcastsInDim (shape1 n) (![] : Fin 0 → Fin (shape1 n).rank)) (d : IVec shape0 32) (hd : d ValueIdx.ix0 = 256#32)
    (i : Fin n) {a : ℕ} (hx : x (ValueIdx.ix1 i) = BitVec.ofNat 32 a) (ha : a < 2 ^ 31) :
    pyDiv hb x d (ValueIdx.ix1 i) = BitVec.ofNat 32 (a / 256) :=
  pyDiv_ap hb x d _ hx hd ha (by decide) (by decide)

/-- The sum along the first axis of a widened mask counts the rows whose bit is set. -/
theorem reduce_count_first {n m : ℕ} (hn : n < 2 ^ 32) (msk : IVec (shape2 n m) 1) (hw : 1 < 32) (h : (shape2 n m).ReducesTo [0] (shape1 m))
    (hu : 0 < shape0.numel) (j : Fin m) (Q : ℕ → Prop) [DecidablePred Q] (hQ : ∀ p : Fin n, msk (ValueIdx.ix2 p j) = 1#1 ↔ Q p.val) :
    Host.reduce IntOp.addi (extui 32 msk hw) (constantI shape0 32 0#32) h hu (ValueIdx.ix1 j) = BitVec.ofNat 32 (Nat.count Q n) := by
  apply BitVec.eq_of_toNat_eq
  rw [StableHlo.Predicate.toNat_reduce_count_rows hn msk hw h hu (ValueIdx.ix1 j), BitVec.toNat_ofNat,
    Nat.mod_eq_of_lt (Nat.lt_of_le_of_lt (Nat.count_le _) hn), ← card_filter_fin n Q]
  refine congrArg Finset.card (Finset.filter_congr fun q _ => ?_)
  show msk (StableHlo.Predicate.ij q j) = 1#1 ↔ Q q.val
  rw [ij_eq_ix2]
  exact hQ q

theorem sum_bit_count (Q : ℕ → Prop) [DecidablePred Q] (n : ℕ) : psum (fun i => if Q i then 1 else 0) n = Nat.count Q n := by
  induction n with
  | zero => rfl
  | succ n ih => rw [psum_succ, ih, Nat.count_succ]

/-- The sum of a widened mask counts its set bits. -/
theorem reduce_count_all {n : ℕ} (msk : IVec (shape1 n) 1) (hw : 1 < 32) (h : (shape1 n).ReducesTo [0] shape0)
    (hu : 0 < shape0.numel) (Q : ℕ → Prop) [DecidablePred Q] (hQ : ∀ p : Fin n, msk (ValueIdx.ix1 p) = 1#1 ↔ Q p.val) :
    Host.reduce IntOp.addi (extui 32 msk hw) (constantI shape0 32 0#32) h hu ValueIdx.ix0 = BitVec.ofNat 32 (Nat.count Q n) := by
  rw [reduce_sum _ (fun i => if Q i then 1 else 0) (fun i => ?_) h hu]
  · exact congrArg (BitVec.ofNat 32) (sum_bit_count Q n)
  · show (msk (ValueIdx.ix1 i)).setWidth 32 = _
    rcases BitVec.eq_zero_or_eq_one (msk (ValueIdx.ix1 i)) with h0 | h1
    · have : ¬ Q i.val := fun hq => by have := (hQ i).2 hq; rw [h0] at this; exact absurd this (by decide)
      rw [h0, if_neg this]; rfl
    · rw [h1, if_pos ((hQ i).1 h1)]; rfl

/-- `a ≤ b` of small words, as a set bit. -/
theorem sle_bit {a b : ℕ} (ha : a < 2 ^ 31) (hb : b < 2 ^ 31) : IntOp.cmpi .sle (BitVec.ofNat 32 a) (BitVec.ofNat 32 b) = 1#1 ↔ a ≤ b := by
  rw [WordCmp.cmpi_sle_ofNat ha hb]
  by_cases h : a ≤ b <;> simp [h]

/-- The read of a table at indices already known to lie in it; the printed wrap of negative indices leaves them as they are. -/
theorem Dec.take {N : ℕ} {t : IVec (shape1 N) 32} (ht : Dec t f) {idx : IVec (shape1 n) 32} (hi : Dec idx g) (hg : ∀ i < n, g i < N) (hN : N < 2 ^ 31)
    (d : GatherDims (shape1 N) (shape2 n 1) (shape1 n)) (hcoll : d.collapsedSliceDims = [0]) (hob : d.operandBatchingDims = [])
    (hsim : d.startIndexMap = [0]) (hivd : d.indexVectorDim = 1) (hb : shape0.BroadcastsInDim (shape1 n) (![] : Fin 0 → Fin (shape1 n).rank))
    (hc : (shape1 n).BroadcastsInDim (shape2 n 1) (![0] : Fin 1 → Fin (shape2 n 1).rank)) (a : IVec (shape1 n) 32) :
    Dec (Host.gather d t (broadcastInDim (shape2 n 1) ![0] hc (select (cmpi .slt idx (broadcastInDim (shape1 n) ![] hb (constantI shape0 32 0#32))) a idx)))
      (fun i => f (g i)) := fun i => by
  have hk := hg i i.isLt
  have hw : (BitVec.ofNat 32 (g i.val)).toNat < 2 ^ (32 - 1) := by
    rw [BitVec.toNat_ofNat, Nat.mod_eq_of_lt (by omega)]; omega
  rw [take_ap d hcoll hob hsim hivd t _ i hk (by omega)]
  · exact ht ⟨g i, hk⟩
  · rw [bcCol, WordCmp.select_at, WordCmp.cmpi_at, bc0, hi i, WordCmp.constantI_at, wrap_of_lt _ _ hw]

/-- A choice by a bit. -/
theorem select_bit {α : Type} (p : Prop) [Decidable p] (a b : α) : Scalar.select (BitVec.ofBool (decide p)) a b = if p then a else b := by
  by_cases h : p
  · rw [if_pos h, decide_eq_true h]; rfl
  · rw [if_neg h, decide_eq_false h]; rfl

/-- The number of tiles of each group: where a size is positive, last minus first plus one, else zero. -/
theorem Dec.counts {s : ℕ → ℕ} {gs x2 x5 : IVec (shape1 128) 32} (hsum : psum s 128 = 65536) (hs : Dec gs s) (h2 : Dec x2 (fst s))
    (h5 : ∀ i : Fin 128, 0 < psum s (i.val + 1) → x5 (ValueIdx.ix1 i) = BitVec.ofNat 32 (lst s i.val))
    (hb : shape0.BroadcastsInDim (shape1 128) (![] : Fin 0 → Fin (shape1 128).rank)) :
    Dec (select (cmpi .sgt gs (broadcastInDim (shape1 128) ![] hb (constantI shape0 32 0#32)))
      (addi (subi x5 x2) (broadcastInDim (shape1 128) ![] hb (constantI shape0 32 1#32))) (broadcastInDim (shape1 128) ![] hb (constantI shape0 32 0#32))) (cnt s) := fun i => by
  have hm := psum_mono s (show i.val + 1 ≤ 128 by omega)
  have hsi : s i.val < 2 ^ 31 := by rw [psum_succ] at hm; omega
  have hbit : IntOp.cmpi .sgt (BitVec.ofNat 32 (s i.val)) 0#32 = BitVec.ofBool (decide (0 < s i.val)) :=
    WordCmp.cmpi_sgt_ofNat (b := 0) hsi (by decide)
  rw [WordCmp.select_at, WordCmp.cmpi_at, addi_ap, subi_ap, bc0, bc0, hs i, WordCmp.constantI_at, WordCmp.constantI_at, hbit, select_bit]
  unfold cnt
  split
  · rename_i h
    have hp : 0 < psum s (i.val + 1) := by rw [psum_succ]; omega
    have hle := fst_le_lst s i.val h
    rw [h5 i hp, h2 i, ofNat32_sub hle, show (1#32 : BitVec 32) = BitVec.ofNat 32 1 from rfl, ← BitVec.ofNat_add]
    exact congrArg (BitVec.ofNat 32) (by omega)
  · rfl

/-- The table of groups: the owner of a live number, else the owner of the last visit. -/
theorem Dec.groups {s : ℕ → ℕ} {x12 : IVec (shape1 128) 32} {x15 : IVec (shape1 383) 32} (hsum : psum s 128 = 65536) (h12 : Dec x12 (fun i => psum (cnt s) (i + 1)))
    (h15 : Dec x15 (owner (cnt s)))
    (hb : shape0.BroadcastsInDim (shape1 383) (![] : Fin 0 → Fin (shape1 383).rank)) (hb' : shape0.BroadcastsInDim (shape1 128) (![] : Fin 0 → Fin (shape1 128).rank))
    (hsl : (shape1 128).Slices ![127] (shape1 1)) (hsc : (shape1 1).ShapeCasts shape0) (hw : 1 < 32) (hr : (shape1 128).ReducesTo [0] shape0) (hu : 0 < shape0.numel) :
    Dec (select (cmpi .slt x15 (broadcastInDim (shape1 383) ![] hb (constantI shape0 32 128#32))) x15
      (broadcastInDim (shape1 383) ![] hb (Host.reduce IntOp.addi (extui 32 (cmpi .sle x12 (broadcastInDim (shape1 128) ![] hb'
        (subi (fun j => shapeCast shape0 (extractStridedSlice (shape1 1) ![127] x12 hsl) hsc j) (constantI shape0 32 1#32)))) hw) (constantI shape0 32 0#32) hr hu))) (tG s)
    ∧ ∀ i : Fin 383, cmpi .slt x15 (broadcastInDim (shape1 383) ![] hb (constantI shape0 32 128#32)) (ValueIdx.ix1 i) = BitVec.ofBool (decide (owner (cnt s) i.val < 128)) := by
  have hT := total_le hsum
  have hp := total_pos hsum
  have hlive : ∀ i : Fin 383, cmpi .slt x15 (broadcastInDim (shape1 383) ![] hb (constantI shape0 32 128#32)) (ValueIdx.ix1 i) = BitVec.ofBool (decide (owner (cnt s) i.val < 128)) := fun i => by
    have : owner (cnt s) i.val ≤ 128 := Nat.count_le _
    rw [WordCmp.cmpi_at, bc0, h15 i, WordCmp.constantI_at]
    exact WordCmp.cmpi_slt_ofNat (b := 128) (by omega) (by decide)
  refine ⟨fun i => ?_, hlive⟩
  have h127 : shapeCast shape0 (extractStridedSlice (shape1 1) ![127] x12 hsl) hsc ValueIdx.ix0 = BitVec.ofNat 32 (psum (cnt s) 128) := by
    refine (shapeCast_apply _ hsc ValueIdx.ix0 (ValueIdx.ix1 (0 : Fin 1)) (by rfl)).trans ?_
    rw [slice1 127 _ _ (0 : Fin 1) (by decide)]
    exact h12 ⟨127, by decide⟩
  have hlast : ∀ p : Fin 128, cmpi .sle x12 (broadcastInDim (shape1 128) ![] hb' (subi (fun j => shapeCast shape0 (extractStridedSlice (shape1 1) ![127] x12 hsl) hsc j)
      (constantI shape0 32 1#32))) (ValueIdx.ix1 p) = 1#1 ↔ psum (cnt s) (p.val + 1) ≤ psum (cnt s) 128 - 1 := fun p => by
    have hm := psum_mono (cnt s) (show p.val + 1 ≤ 128 by omega)
    rw [WordCmp.cmpi_at, bc0, h12 p, subi_ap, WordCmp.constantI_at, h127, show (1#32 : BitVec 32) = BitVec.ofNat 32 1 from rfl, ofNat32_sub (by omega)]
    exact sle_bit (a := psum (cnt s) (p.val + 1)) (by omega) (by omega)
  rw [WordCmp.select_at, hlive i, bc0, reduce_count_all _ hw hr hu (fun e => psum (cnt s) (e + 1) ≤ psum (cnt s) 128 - 1) hlast, select_bit, h15 i]
  unfold tG
  split <;> rfl

end Cert.Visits

end
-- ==== Proof.KernelTables.lean ====
/-
  What the host code of `Kernel` before the grid call computes: from group sizes that fill the 65536 rows, the four tables
  (group, tile, first row, end row) hold the numbers of `Visits.lean`. One lemma per stretch of host operations, each over
  arbitrary contents `W` before the stretch; `tables` chains them.
-/
module

public import proofs.«01_k».proof.Proof.Gen.Kernel.Launch
public import proofs.«01_k».proof.Proof.HostWords
public import Idealize.ShloMosaic.Lib.StableHlo.RunRead
public import Idealize.ShloMosaic.Lib.StableHlo.ReadAt

@[expose] public section

set_option maxRecDepth 16384

noncomputable section

namespace Cert.Kernel.Gen
open Idealize.ShloMosaic Idealize.ShloMosaic.TcCoe Idealize.ShloMosaic.Tactic
open Idealize.ShloMosaic.Routing
open Cert.Visits

variable {F : FTy → Type} [FloatOps F]

section Stretches
variable (W : Valuation τ sig (Elt F)) {s : ℕ → ℕ}

/-- Where the groups end (`main_v0`) and where they start (`main_v1`). -/
theorem ends_starts (hs : Dec (n := 128) (W main_arg2) s) :
    Dec (n := 128) (StableHlo.after hostOps0_1 (StableHlo.after hostOps0 W) main_v0) (fun i => psum s (i + 1))
    ∧ Dec (n := 128) (StableHlo.after hostOps0_1 (StableHlo.after hostOps0 W) main_v1) (fun i => psum s i)
    ∧ (StableHlo.after hostOps0_1 (StableHlo.after hostOps0 W) main_c : IVec shape0 32) ValueIdx.ix0 = 256#32
    ∧ StableHlo.after hostOps0_1 (StableHlo.after hostOps0 W) main_arg2 = W main_arg2 := by
  refine ⟨?_, ?_, ?_, ?_⟩
  · after_reads_simp
    simp -implicitDefEqProofs only [StableHlo.TRef.toBuf, StableHlo.TRef.ofBuf, cast_cast, cast_eq]
    exact hs.cumsum _ (by rw [bc0]; rfl) _ _
  · after_reads_simp
    simp -implicitDefEqProofs only [StableHlo.TRef.toBuf, StableHlo.TRef.ofBuf, cast_cast, cast_eq]
    refine ((hs.cumsum _ (by rw [bc0]; rfl) _ _).sub hs fun i _ => ?_).congr fun i _ => ?_
    · rw [psum_succ]; omega
    · rw [psum_succ]; omega
  · after_reads_simp; rfl
  · after_reads_simp

/-- The groups' first tiles. -/
theorem firsts (hsum : psum s 128 = 65536) (h1 : Dec (n := 128) (W main_v1) (fun i => psum s i)) (hc : (W main_c : IVec shape0 32) ValueIdx.ix0 = 256#32) :
    Dec (n := 128) (StableHlo.after hostOps0_2 W main_v2) (fst s)
    ∧ StableHlo.after hostOps0_2 W main_v0 = W main_v0
    ∧ StableHlo.after hostOps0_2 W main_v1 = W main_v1
    ∧ StableHlo.after hostOps0_2 W main_arg2 = W main_arg2 := by
  refine ⟨?_, by after_reads_simp, by after_reads_simp, by after_reads_simp⟩
  after_reads_simp
  simp -implicitDefEqProofs only [StableHlo.TRef.toBuf, StableHlo.TRef.ofBuf, cast_cast, cast_eq]
  intro i
  have := psum_mono s (show i.val ≤ 128 by omega)
  exact floorDiv_at bcast_S_S128 (W main_c) hc i (h1 i) (by omega)

/-- The groups' last tiles, of the groups that do not end at row 0. -/
theorem lasts (hsum : psum s 128 = 65536) (h0 : Dec (n := 128) (W main_v0) (fun i => psum s (i + 1))) :
    (∀ i : Fin 128, 0 < psum s (i.val + 1) → (StableHlo.after hostOps0_4 (StableHlo.after hostOps0_3 W) main_v5 : IVec (shape1 128) 32) (ValueIdx.ix1 i) = BitVec.ofNat 32 (lst s i.val))
    ∧ StableHlo.after hostOps0_4 (StableHlo.after hostOps0_3 W) main_v0 = W main_v0
    ∧ StableHlo.after hostOps0_4 (StableHlo.after hostOps0_3 W) main_v1 = W main_v1
    ∧ StableHlo.after hostOps0_4 (StableHlo.after hostOps0_3 W) main_v2 = W main_v2
    ∧ StableHlo.after hostOps0_4 (StableHlo.after hostOps0_3 W) main_arg2 = W main_arg2 := by
  refine ⟨?_, by after_reads_simp, by after_reads_simp, by after_reads_simp, by after_reads_simp⟩
  after_reads_simp
  simp -implicitDefEqProofs only [StableHlo.TRef.toBuf, StableHlo.TRef.ofBuf, cast_cast, cast_eq]
  intro i hi
  have := psum_mono s (show i.val + 1 ≤ 128 by omega)
  refine floorDiv_at bcast_S_S128 (constantI shape0 32 256#32) rfl i (a := psum s (i.val + 1) - 1) ?_ (by omega)
  rw [subi_ap, h0 i]
  exact (congrArg (fun z => BitVec.ofNat 32 (psum s (i.val + 1)) - z) (bc0 bcast_S_S128 (constantI shape0 32 1#32) (ValueIdx.ix1 i))).trans (ofNat32_sub (b := 1) hi)

/-- How many tiles each group touches. -/
theorem counts (hsum : psum s 128 = 65536) (hs : Dec (n := 128) (W main_arg2) s) (h2 : Dec (n := 128) (W main_v2) (fst s))
    (h5 : ∀ i : Fin 128, 0 < psum s (i.val + 1) → (W main_v5 : IVec (shape1 128) 32) (ValueIdx.ix1 i) = BitVec.ofNat 32 (lst s i.val)) :
    Dec (n := 128) (StableHlo.after hostOps0_6 (StableHlo.after hostOps0_5 W) main_v11) (cnt s)
    ∧ StableHlo.after hostOps0_6 (StableHlo.after hostOps0_5 W) main_v0 = W main_v0
    ∧ StableHlo.after hostOps0_6 (StableHlo.after hostOps0_5 W) main_v1 = W main_v1
    ∧ StableHlo.after hostOps0_6 (StableHlo.after hostOps0_5 W) main_v2 = W main_v2 := by
  refine ⟨?_, by after_reads_simp, by after_reads_simp, by after_reads_simp⟩
  after_reads_simp
  simp -implicitDefEqProofs only [StableHlo.TRef.toBuf, StableHlo.TRef.ofBuf, cast_cast, cast_eq]
  exact Dec.counts hsum hs h2 h5 bcast_S_S128

/-- Where each group's visits end (`main_v12`) and start (`main_v13`), and the visits' numbers. -/
theorem visits (h11 : Dec (n := 128) (W main_v11) (cnt s)) :
    Dec (n := 128) (StableHlo.after hostOps0_8 (StableHlo.after hostOps0_7 W) main_v12) (fun i => psum (cnt s) (i + 1))
    ∧ Dec (n := 128) (StableHlo.after hostOps0_8 (StableHlo.after hostOps0_7 W) main_v13) (fun i => psum (cnt s) i)
    ∧ Dec (n := 383) (StableHlo.after hostOps0_8 (StableHlo.after hostOps0_7 W) main_v14) (fun i => i)
    ∧ StableHlo.after hostOps0_8 (StableHlo.after hostOps0_7 W) main_v0 = W main_v0
    ∧ StableHlo.after hostOps0_8 (StableHlo.after hostOps0_7 W) main_v1 = W main_v1
    ∧ StableHlo.after hostOps0_8 (StableHlo.after hostOps0_7 W) main_v2 = W main_v2 := by
  refine ⟨?_, ?_, ?_, by after_reads_simp, by after_reads_simp, by after_reads_simp⟩
  · after_reads_simp
    simp -implicitDefEqProofs only [StableHlo.TRef.toBuf, StableHlo.TRef.ofBuf, cast_cast, cast_eq]
    exact h11.cumsum _ (by rw [bc0]; rfl) _ _
  · after_reads_simp
    simp -implicitDefEqProofs only [StableHlo.TRef.toBuf, StableHlo.TRef.ofBuf, cast_cast, cast_eq]
    refine ((h11.cumsum _ (by rw [bc0]; rfl) _ _).sub h11 fun i _ => ?_).congr fun i _ => ?_
    · rw [psum_succ]; omega
    · rw [psum_succ]; omega
  · after_reads_simp
    exact fun i => iota1_ap i

/-- Each number's owner: the groups whose visits end at or before it, counted. -/
theorem owners (hsum : psum s 128 = 65536) (h12 : Dec (n := 128) (W main_v12) (fun i => psum (cnt s) (i + 1))) (h14 : Dec (n := 383) (W main_v14) (fun i => i)) :
    Dec (n := 383) (StableHlo.after hostOps0_9 W main_v15) (owner (cnt s))
    ∧ StableHlo.after hostOps0_9 W main_v0 = W main_v0
    ∧ StableHlo.after hostOps0_9 W main_v1 = W main_v1
    ∧ StableHlo.after hostOps0_9 W main_v2 = W main_v2
    ∧ StableHlo.after hostOps0_9 W main_v12 = W main_v12
    ∧ StableHlo.after hostOps0_9 W main_v13 = W main_v13
    ∧ StableHlo.after hostOps0_9 W main_v14 = W main_v14 := by
  refine ⟨?_, by after_reads_simp, by after_reads_simp, by after_reads_simp, by after_reads_simp, by after_reads_simp, by after_reads_simp⟩
  after_reads_simp
  simp -implicitDefEqProofs only [StableHlo.TRef.toBuf, StableHlo.TRef.ofBuf, cast_cast, cast_eq]
  intro i
  refine reduce_count_first (n := 128) (m := 383) (by decide) _ _ _ _ i (fun e => psum (cnt s) (e + 1) ≤ i.val) fun p => ?_
  rw [WordCmp.cmpi_at]
  have h1 := bcRows (n := 128) (m := 383) bcast_S128_S128x1_0 bcast_S128x1_S128x383_0_1 (W main_v12) p i
  have h2 := bcCols (n := 128) (m := 383) bcast_S383_S1x383_1 bcast_S1x383_S128x383_0_1 (W main_v14) p i
  have hm := psum_mono (cnt s) (show p.val + 1 ≤ 128 by omega)
  have hT := total_le hsum
  have := i.isLt
  refine Iff.trans (Eq.to_iff (congrArg (· = 1#1) (congrArg₂ (IntOp.cmpi .sle) (h1.trans (h12 p)) (h2.trans (h14 i))))) ?_
  exact sle_bit (a := psum (cnt s) (p.val + 1)) (b := i.val) (by omega) (by omega)

/-- The table of groups (`main_v22`); the mask of the live numbers (`main_v17`). -/
theorem groups (hsum : psum s 128 = 65536) (h12 : Dec (n := 128) (W main_v12) (fun i => psum (cnt s) (i + 1)))
    (h15 : Dec (n := 383) (W main_v15) (owner (cnt s))) :
    Dec (n := 383) (StableHlo.after hostOps0_12 (StableHlo.after hostOps0_11 (StableHlo.after hostOps0_10 W)) main_v22) (tG s)
    ∧ (∀ i : Fin 383, (StableHlo.after hostOps0_12 (StableHlo.after hostOps0_11 (StableHlo.after hostOps0_10 W)) main_v17 : IVec (shape1 383) 1) (ValueIdx.ix1 i)
        = BitVec.ofBool (decide (owner (cnt s) i.val < 128)))
    ∧ StableHlo.after hostOps0_12 (StableHlo.after hostOps0_11 (StableHlo.after hostOps0_10 W)) main_v0 = W main_v0
    ∧ StableHlo.after hostOps0_12 (StableHlo.after hostOps0_11 (StableHlo.after hostOps0_10 W)) main_v1 = W main_v1
    ∧ StableHlo.after hostOps0_12 (StableHlo.after hostOps0_11 (StableHlo.after hostOps0_10 W)) main_v2 = W main_v2
    ∧ StableHlo.after hostOps0_12 (StableHlo.after hostOps0_11 (StableHlo.after hostOps0_10 W)) main_v13 = W main_v13
    ∧ StableHlo.after hostOps0_12 (StableHlo.after hostOps0_11 (StableHlo.after hostOps0_10 W)) main_v14 = W main_v14 := by
  have h := Dec.groups hsum h12 h15 bcast_S_S383 bcast_S_S128 slices_S128_S1_127 shapeCasts_S1_S_ natLt_1_32 reducesTo_S128_S_d0 h_S_
  refine ⟨?_, ?_, by after_reads_simp, by after_reads_simp, by after_reads_simp, by after_reads_simp, by after_reads_simp⟩
  · after_reads_simp
    simp -implicitDefEqProofs only [StableHlo.TRef.toBuf, StableHlo.TRef.ofBuf, cast_cast, cast_eq]
    exact h.1
  · after_reads_simp
    exact h.2

/-- The table of tiles. -/
theorem tiles (hsum : psum s 128 = 65536) (h22 : Dec (n := 383) (W main_v22) (tG s))
    (h17 : ∀ i : Fin 383, (W main_v17 : IVec (shape1 383) 1) (ValueIdx.ix1 i) = BitVec.ofBool (decide (owner (cnt s) i.val < 128)))
    (h2 : Dec (n := 128) (W main_v2) (fst s)) (h13 : Dec (n := 128) (W main_v13) (fun i => psum (cnt s) i)) (h14 : Dec (n := 383) (W main_v14) (fun i => i)) :
    Dec (n := 383) (StableHlo.after hostOps0_14 (StableHlo.after hostOps0_13 W) main_v39) (tT s)
    ∧ StableHlo.after hostOps0_14 (StableHlo.after hostOps0_13 W) main_v0 = W main_v0
    ∧ StableHlo.after hostOps0_14 (StableHlo.after hostOps0_13 W) main_v1 = W main_v1
    ∧ StableHlo.after hostOps0_14 (StableHlo.after hostOps0_13 W) main_v22 = W main_v22
    ∧ StableHlo.after hostOps0_14 (StableHlo.after hostOps0_13 W) main_v17 = W main_v17 := by
  refine ⟨?_, by after_reads_simp, by after_reads_simp, by after_reads_simp, by after_reads_simp⟩
  after_reads_simp
  simp -implicitDefEqProofs only [StableHlo.TRef.toBuf, StableHlo.TRef.ofBuf, cast_cast, cast_eq]
  intro i
  have hg : ∀ j < 383, tG s j < 128 := fun j _ => tG_lt hsum j
  have hf := (h2.take h22 hg (by decide) gather_S128_S383x1_S383_n_0_n_n_0_1_1 rfl rfl rfl rfl bcast_S_S383 bcast_S383_S383x1_0
    (addi (W main_v22 : IVec (shape1 383) 32) (broadcastInDim (shape1 383) ![] bcast_S_S383 (constantI shape0 32 128#32)))).add h14
  have hv := h13.take h22 hg (by decide) gather_S128_S383x1_S383_n_0_n_n_0_1_1 rfl rfl rfl rfl bcast_S_S383 bcast_S383_S383x1_0
    (addi (W main_v22 : IVec (shape1 383) 32) (broadcastInDim (shape1 383) ![] bcast_S_S383 (constantI shape0 32 128#32)))
  rw [WordCmp.select_at, h17 i, select_bit]
  unfold tT
  split
  · rename_i h
    have ho := owner_spec (cnt s) ((owner_lt_iff _ _).1 h)
    have hgo : tG s i.val = owner (cnt s) i.val := if_pos h
    refine (congrArg₂ (· - ·) (hf i) (hv i)).trans ?_
    show BitVec.ofNat 32 (fst s (tG s i.val) + i.val) - BitVec.ofNat 32 (psum (cnt s) (tG s i.val)) = _
    rw [hgo]
    exact ofNat32_sub (by omega)
  · exact bc0 bcast_S_S383 _ _

/-- The table of first rows. -/
theorem rowsFrom (hsum : psum s 128 = 65536) (h22 : Dec (n := 383) (W main_v22) (tG s))
    (h17 : ∀ i : Fin 383, (W main_v17 : IVec (shape1 383) 1) (ValueIdx.ix1 i) = BitVec.ofBool (decide (owner (cnt s) i.val < 128)))
    (h1 : Dec (n := 128) (W main_v1) (fun i => psum s i)) :
    Dec (n := 383) (StableHlo.after hostOps0_16 (StableHlo.after hostOps0_15 W) main_v47) (tL s)
    ∧ StableHlo.after hostOps0_16 (StableHlo.after hostOps0_15 W) main_v0 = W main_v0
    ∧ StableHlo.after hostOps0_16 (StableHlo.after hostOps0_15 W) main_v22 = W main_v22
    ∧ StableHlo.after hostOps0_16 (StableHlo.after hostOps0_15 W) main_v17 = W main_v17
    ∧ StableHlo.after hostOps0_16 (StableHlo.after hostOps0_15 W) main_v39 = W main_v39 := by
  refine ⟨?_, by after_reads_simp, by after_reads_simp, by after_reads_simp, by after_reads_simp⟩
  after_reads_simp
  simp -implicitDefEqProofs only [StableHlo.TRef.toBuf, StableHlo.TRef.ofBuf, cast_cast, cast_eq]
  intro i
  have hf := h1.take h22 (fun j _ => tG_lt hsum j) (by decide) gather_S128_S383x1_S383_n_0_n_n_0_1_1 rfl rfl rfl rfl bcast_S_S383 bcast_S383_S383x1_0
    (addi (W main_v22 : IVec (shape1 383) 32) (broadcastInDim (shape1 383) ![] bcast_S_S383 (constantI shape0 32 128#32)))
  rw [WordCmp.select_at, h17 i, select_bit]
  unfold tL
  split
  · rename_i h
    have hgo : tG s i.val = owner (cnt s) i.val := if_pos h
    rw [← hgo]
    exact hf i
  · exact bc0 bcast_S_S383 _ _

/-- The table of end rows. -/
theorem rowsTo (hsum : psum s 128 = 65536) (h22 : Dec (n := 383) (W main_v22) (tG s))
    (h17 : ∀ i : Fin 383, (W main_v17 : IVec (shape1 383) 1) (ValueIdx.ix1 i) = BitVec.ofBool (decide (owner (cnt s) i.val < 128)))
    (h0 : Dec (n := 128) (W main_v0) (fun i => psum s (i + 1))) :
    Dec (n := 383) (StableHlo.after hostOps0_18 (StableHlo.after hostOps0_17 W) main_v55) (tH s)
    ∧ StableHlo.after hostOps0_18 (StableHlo.after hostOps0_17 W) main_v22 = W main_v22
    ∧ StableHlo.after hostOps0_18 (StableHlo.after hostOps0_17 W) main_v39 = W main_v39
    ∧ StableHlo.after hostOps0_18 (StableHlo.after hostOps0_17 W) main_v47 = W main_v47 := by
  refine ⟨?_, by after_reads_simp, by after_reads_simp, by after_reads_simp⟩
  after_reads_simp
  simp -implicitDefEqProofs only [StableHlo.TRef.toBuf, StableHlo.TRef.ofBuf, cast_cast, cast_eq]
  intro i
  have hf := h0.take h22 (fun j _ => tG_lt hsum j) (by decide) gather_S128_S383x1_S383_n_0_n_n_0_1_1 rfl rfl rfl rfl bcast_S_S383 bcast_S383_S383x1_0
    (addi (W main_v22 : IVec (shape1 383) 32) (broadcastInDim (shape1 383) ![] bcast_S_S383 (constantI shape0 32 128#32)))
  rw [WordCmp.select_at, h17 i, select_bit]
  unfold tH
  split
  · rename_i h
    have hgo : tG s i.val = owner (cnt s) i.val := if_pos h
    rw [← hgo]
    exact hf i
  · exact bc0 bcast_S_S383 _ _

end Stretches

/-- The host operations before the grid call, stretch by stretch. -/
def hostLines : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19]

theorem after_hostLines (W : Valuation τ sig (Elt F)) : StableHlo.after hostLines.flatten W
    = StableHlo.after hostOps0_19 (StableHlo.after hostOps0_18 (StableHlo.after hostOps0_17 (StableHlo.after hostOps0_16 (StableHlo.after hostOps0_15
      (StableHlo.after hostOps0_14 (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1 (StableHlo.after hostOps0 W))))))))))))))))))) := by
  unfold hostLines
  simp only [List.flatten_cons, List.flatten_nil, List.append_nil, StableHlo.after_append]

/-- THE TABLES at the grid call, from group sizes that fill the rows. -/
theorem tables (W : Valuation τ sig (Elt F)) {s : ℕ → ℕ} (hsum : psum s 128 = 65536) (hs : Dec (n := 128) (W main_arg2) s) :
    Dec (n := 383) (StableHlo.after hostLines.flatten W main_v22) (tG s)
    ∧ Dec (n := 383) (StableHlo.after hostLines.flatten W main_v39) (tT s)
    ∧ Dec (n := 383) (StableHlo.after hostLines.flatten W main_v47) (tL s)
    ∧ Dec (n := 383) (StableHlo.after hostLines.flatten W main_v55) (tH s) := by
  rw [after_hostLines]
  obtain ⟨a0, a1, ac, ag⟩ := ends_starts W hs
  generalize StableHlo.after hostOps0_1 (StableHlo.after hostOps0 W) = W1 at *
  rw [← ag] at hs
  obtain ⟨b2, b0, b1, bg⟩ := firsts W1 hsum a1 ac
  generalize StableHlo.after hostOps0_2 W1 = W2 at *
  rw [← b0] at a0; rw [← b1] at a1; rw [← bg] at hs
  obtain ⟨c5, c0, c1, c2, cg⟩ := lasts W2 hsum a0
  generalize StableHlo.after hostOps0_4 (StableHlo.after hostOps0_3 W2) = W3 at *
  rw [← c0] at a0; rw [← c1] at a1; rw [← c2] at b2; rw [← cg] at hs
  obtain ⟨d11, d0, d1, d2⟩ := counts W3 hsum hs b2 c5
  generalize StableHlo.after hostOps0_6 (StableHlo.after hostOps0_5 W3) = W4 at *
  rw [← d0] at a0; rw [← d1] at a1; rw [← d2] at b2
  obtain ⟨e12, e13, e14, e0, e1, e2⟩ := visits W4 d11
  generalize StableHlo.after hostOps0_8 (StableHlo.after hostOps0_7 W4) = W5 at *
  rw [← e0] at a0; rw [← e1] at a1; rw [← e2] at b2
  obtain ⟨f15, f0, f1, f2, f12, f13, f14⟩ := owners W5 hsum e12 e14
  generalize StableHlo.after hostOps0_9 W5 = W6 at *
  rw [← f0] at a0; rw [← f1] at a1; rw [← f2] at b2; rw [← f12] at e12; rw [← f13] at e13; rw [← f14] at e14
  obtain ⟨g22, g17, g0, g1, g2, g13, g14⟩ := groups W6 hsum e12 f15
  generalize StableHlo.after hostOps0_12 (StableHlo.after hostOps0_11 (StableHlo.after hostOps0_10 W6)) = W7 at *
  rw [← g0] at a0; rw [← g1] at a1; rw [← g2] at b2; rw [← g13] at e13; rw [← g14] at e14
  obtain ⟨h39, h0, h1, h22, h17⟩ := tiles W7 hsum g22 g17 b2 e13 e14
  generalize StableHlo.after hostOps0_14 (StableHlo.after hostOps0_13 W7) = W8 at *
  rw [← h0] at a0; rw [← h1] at a1; rw [← h22] at g22; rw [← h17] at g17
  obtain ⟨i47, i0, i22, i17, i39⟩ := rowsFrom W8 hsum g22 g17 a1
  generalize StableHlo.after hostOps0_16 (StableHlo.after hostOps0_15 W8) = W9 at *
  rw [← i0] at a0; rw [← i22] at g22; rw [← i17] at g17; rw [← i39] at h39
  obtain ⟨j55, j22, j39, j47⟩ := rowsTo W9 hsum g22 g17 a0
  generalize StableHlo.after hostOps0_18 (StableHlo.after hostOps0_17 W9) = W10 at *
  rw [← j22] at g22; rw [← j39] at h39; rw [← j47] at i47
  rw [show StableHlo.after hostOps0_19 W10 main_v22 = W10 main_v22 by after_reads_simp,
    show StableHlo.after hostOps0_19 W10 main_v39 = W10 main_v39 by after_reads_simp,
    show StableHlo.after hostOps0_19 W10 main_v47 = W10 main_v47 by after_reads_simp,
    show StableHlo.after hostOps0_19 W10 main_v55 = W10 main_v55 by after_reads_simp]
  exact ⟨g22, h39, i47, j55⟩

end Cert.Kernel.Gen

end
-- ==== Proof.KernelRegion.lean ====
/-
  The grid call of `Kernel` as its launch sees it: what every buffer holds when the call is entered, the four prefetched tables,
  the blocks its windows stage, and its arguments read back. Stated over any number type.
-/
module

public import proofs.«01_k».proof.Proof.KernelTables
public import proofs.«01_k».proof.Proof.Gen.Kernel.Skeleton
public import Idealize.ShloMosaic.Lib.Pipeline.FrameBody
public import Idealize.ShloMosaic.Lib.Tactic
public import Idealize.ShloMosaic.Lib.WordCmp
public import Idealize.ShloMosaic.Lib.Pipeline.Kit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the grid call is entered: the launch contents after the host operations. -/
def V (c : Dev nD) (b : Ref sig .tc) : Buf (Elt F) ((c : Thread nD τ).loc b) :=
  StableHlo.after hostLines.flatten (fun b => m (c, b)) b

theorem hostLines_sub : (hostLines (F := F)).Forall fun ops => ops.Forall fun op => op.bufs ⊆ StableHlo.tcRefs τ sig := by
  unfold hostLines
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩

theorem hostLines_fresh : (hostLines (F := F)).Forall fun ops => ops.Forall fun op => op.fresh = ∅ := by
  unfold hostLines
  simp only [List.Forall]
  repeat' constructor

/-- The program up to the grid call: the host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh fun c => (main_chain c).trans rfl

/-- A buffer no host operation writes is found as launched. -/
theorem V_kept (c : Dev nD) (b : Ref sig .tc)
    (h : (hostLines (F := F)).flatten.Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := V_kept m c main_arg0 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))
theorem V_main_arg1 (c : Dev nD) : V m c main_arg1 = m ((c : Thread nD τ).loc main_arg1) := V_kept m c main_arg1 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))
theorem V_main_arg2 (c : Dev nD) : V m c main_arg2 = m ((c : Thread nD τ).loc main_arg2) := V_kept m c main_arg2 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))
theorem V_main_arg3 (c : Dev nD) : V m c main_arg3 = m ((c : Thread nD τ).loc main_arg3) := V_kept m c main_arg3 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))
theorem V_main_arg4 (c : Dev nD) : V m c main_arg4 = m ((c : Thread nD τ).loc main_arg4) := V_kept m c main_arg4 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S383 .i32 := Memref.whole main_v22
abbrev htbM0_0 : tbM0_0.IsWhole := Memref.isWhole_whole _
abbrev tbM0_1 : Memref sig .tc .smem S383 .i32 := Memref.whole main_v39
abbrev htbM0_1 : tbM0_1.IsWhole := Memref.isWhole_whole _
abbrev tbM0_2 : Memref sig .tc .smem S383 .i32 := Memref.whole main_v47
abbrev htbM0_2 : tbM0_2.IsWhole := Memref.isWhole_whole _
abbrev tbM0_3 : Memref sig .tc .smem S383 .i32 := Memref.whole main_v55
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every visit, for any proof data whose arrays are `V`'s and whose body
    leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every visit, for any proof data whose arrays are `V`'s and whose body
    leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every visit, for any proof data whose arrays are `V`'s and whose body
    leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every visit, for any proof data whose arrays are `V`'s and whose body
    leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x768 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x768x2048 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2048 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__gmm_kernel (grid0.coords t) (Memref.whole main_v22) (Memref.isWhole_whole _) (Memref.whole main_v39) (Memref.isWhole_whole _) (Memref.whole main_v47) (Memref.isWhole_whole _) (Memref.whole main_v55) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.Kernel.Gen

end
-- ==== Proof.KernelBody.lean ====
/-
  One visit of the kernel body of `Kernel`, run on any staging buffers: what the output's buffer holds afterwards, as a function
  of the three table words of the visit, the four staged blocks and what the buffer held before.
-/
module

public import proofs.«01_k».proof.Proof.KernelRegion
public import Idealize.ShloMosaic.Lib.Tactic
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table entry a visit reads. -/
abbrev entryAt (i : grid0.Coords) : S383.Idx :=
  (Rect.unit (s := S383) (k0_off1 i) S1.size (k0_off1_inb i)).point numel1_S1

/-- What one visit leaves in the output's buffer: the whole block, or the group's rows of it, or what was there. -/
def bodyVal (v1 v4 v6 : BitVec 32) (d : Vec F S256x2048 .bf16) (x : Vec F S256x768 .fp8e4m3) (xs : Vec F S256x1 .f32)
    (w : Vec F S1x768x2048 .fp8e4m3) (ws : Vec F S1x1x2048 .f32) : Vec F S256x2048 .bf16 :=
  let mid : Vec F S256x2048 .bf16 := if k0_cond1 v1 v4 v6 = 1#1 then k0_pay1 x w xs ws else d
  if k0_cond2 v1 v4 v6 = 1#1 then k0_pay2 v1 v4 v6 mid x w xs ws else mid

set_option maxHeartbeats 1000000 in
/-- The body's triple. -/
theorem bodyRun (c : Dev nD) (i : grid0.Coords) (arg5 : Memref sig .tc .vmem S256x768 .fp8e4m3) (harg5 : arg5.IsWhole) (arg6 : Memref sig .tc .vmem S256x1 .f32) (harg6 : arg6.IsWhole) (arg7 : Memref sig .tc .vmem S1x768x2048 .fp8e4m3) (harg7 : arg7.IsWhole) (arg8 : Memref sig .tc .vmem S1x1x2048 .f32) (harg8 : arg8.IsWhole) (arg9 : Memref sig .tc .vmem S256x2048 .bf16) (harg9 : arg9.IsWhole)
    (x0 : Vec F S256x768 .fp8e4m3) (x1 : Vec F S256x1 .f32) (x2 : Vec F S1x768x2048 .fp8e4m3) (x3 : Vec F S1x1x2048 .f32) (d4 : Vec F S256x2048 .bf16)
    (xt0 : TbBuf0 (F := F) c tbM0_0) (xt1 : TbBuf0 (F := F) c tbM0_1) (xt2 : TbBuf0 (F := F) c tbM0_2) (xt3 : TbBuf0 (F := F) c tbM0_3)
    (v1 v4 v6 : BitVec 32) (h1 : tbM0_1.view.read (Elt F) xt1 (entryAt i) = v1) (h2 : tbM0_2.view.read (Elt F) xt2 (entryAt i) = v4)
    (h3 : tbM0_3.view.read (Elt F) xt3 (entryAt i) = v6) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare d4 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (bodyVal v1 v4 v6 d4 x0 x1 x2 x3) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__gmm_kernel i tbM0_0 htbM0_0 tbM0_1 htbM0_1 tbM0_2 htbM0_2 tbM0_3 htbM0_3 arg5 harg5 arg6 harg6 arg7 harg7 arg8 harg8 arg9 harg9) K := by
    intro E K
    simp only [cc0__gmm_kernel_eq_skeleton]; unfold cc0__gmm_kernel_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec
    sl_step
    have e1 : bodyRun.sl.r c i xt1 = v1 := h1
    have e2 : bodyRun.sl.r_1 c i xt2 = v4 := h2
    have e3 : bodyRun.sl.r_2 c i xt3 = v6 := h3
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      unfold bodyRun.sl.v28
      rw [e1, e2, e3]
      unfold bodyVal
      have l0 : arg5.view.readAt (Elt F) (Rect.unit ![0, 0] S256x768.size inb_S256x768_S256x768_0_0).toLoadRect (harg5.unread x0) = x0 :=
        (View.readAt_full _ _ _).trans hf0
      have l1 : arg6.view.readAt (Elt F) (Rect.unit ![0, 0] S256x1.size inb_S256x1_S256x1_0_0).toLoadRect (harg6.unread x1) = x1 :=
        (View.readAt_full _ _ _).trans hf1
      have l2 : arg7.view.readAt (Elt F) (Rect.unit ![0, 0, 0] S1x768x2048.size inb_S1x768x2048_S1x768x2048_0_0_0).toLoadRect (harg7.unread x2) = x2 :=
        (View.readAt_full _ _ _).trans hf2
      have l3 : arg8.view.readAt (Elt F) (Rect.unit ![0, 0, 0] S1x1x2048.size inb_S1x1x2048_S1x1x2048_0_0_0).toLoadRect (harg8.unread x3) = x3 :=
        (View.readAt_full _ _ _).trans hf3
      have l4 : ∀ f, arg9.view.readAt (Elt F) (Rect.unit ![0, 0] S256x2048.size inb_S256x2048_S256x2048_0_0).toLoadRect f = arg9.view.read (Elt F) f :=
        fun f => View.readAt_full _ _ _
      have wf : ∀ f w, arg9.view.read (Elt F) (arg9.view.writes (Elt F) f [⟨Rect.unit ![0, 0] S256x2048.size inb_S256x2048_S256x2048_0_0, w⟩]) = w :=
        fun f w => View.read_writes_full _ _ _ _ _
      rw [l0, l1, l2, l3, l4]
      by_cases c1 : k0_cond1 v1 v4 v6 = 1#1
      · by_cases c2 : k0_cond2 v1 v4 v6 = 1#1
        · rw [dif_pos c2, dif_pos c1, if_pos c2, if_pos c1, wf, wf]
        · rw [dif_neg c2, dif_pos c1, if_neg c2, if_pos c1, wf]
      · by_cases c2 : k0_cond2 v1 v4 v6 = 1#1
        · rw [dif_pos c2, dif_neg c1, if_pos c2, if_neg c1, wf, hf4]
        · rw [dif_neg c2, dif_neg c1, if_neg c2, if_neg c1, hf4]
    isplitl [HT0]; · iexact HT0
    isplitl [HT1]; · iexact HT1
    isplitl [HT2]; · iexact HT2
    iexact HT3

end Cert.Kernel.Gen

end
-- ==== Proof.Precond.lean ====
/-
  What the precondition says of the group sizes: read as natural numbers they sum to 65536, the number of rows.
-/
module

public import proofs.«01_k».proof.Proof.HostWords
public import proofs.«01_k».proof.Pre_pre
public import Idealize.ShloMosaic.Lib.ReduceAll

@[expose] public section

set_option maxRecDepth 16384

noncomputable section

namespace Cert.Visits

open Idealize.ShloMosaic Idealize.ShloMosaic.Routing

/-- The group sizes as natural numbers (0 past the last group). -/
def sizes (gs : IVec (shape1 128) 32) : ℕ → ℕ := fun i => if h : i < 128 then (gs (ValueIdx.ix1 ⟨i, h⟩)).toNat else 0

theorem sizes_dec (gs : IVec (shape1 128) 32) : Dec gs (sizes gs) := fun i => by
  unfold sizes
  rw [dif_pos i.isLt, BitVec.ofNat_toNat, BitVec.setWidth_eq]

theorem psum_le (f : ℕ → ℕ) (b n : ℕ) (h : ∀ i < n, f i ≤ b) : psum f n ≤ n * b := by
  induction n with
  | zero => simp [psum_zero]
  | succ n ih =>
    rw [psum_succ, Nat.succ_mul]
    have := ih fun i hi => h i (by omega)
    have := h n (by omega)
    omega

theorem and_one (a b : BitVec 1) (h : IntOp.andi a b = 1#1) : a = 1#1 ∧ b = 1#1 := by
  revert a b; decide

theorem bit_true {p : Prop} [Decidable p] (h : BitVec.ofBool (decide p) = 1#1) : p := by
  by_contra hp
  rw [decide_eq_false hp] at h
  exact absurd h (by decide)

variable {F : FTy → Type} [FloatOps F] [Cert.Pre_pre.Facts]

/-- The precondition: the sizes fill the rows. -/
theorem sizes_sum (a0 : FVec F Cert.Pre_pre.S65536x768 .fp8e4m3) (a1 : FVec F Cert.Pre_pre.S65536x1 .f32) (gs : IVec (shape1 128) 32)
    (a3 : FVec F Cert.Pre_pre.S128x768x2048 .fp8e4m3) (a4 : FVec F Cert.Pre_pre.S128x2048 .f32)
    (h : Cert.Pre_pre.fn a0 a1 gs a3 a4 = fun _ => 1#1) : psum (sizes gs) 128 = 65536 := by
  have h0 := congrFun h ValueIdx.ix0
  unfold Cert.Pre_pre.fn at h0
  dsimp only at h0
  rw [WordCmp.andi_at] at h0
  obtain ⟨hall, hsum⟩ := and_one _ _ h0
  have hb : ∀ i : Fin 128, (gs (ValueIdx.ix1 i)).toNat ≤ 65536 := fun i => by
    have : Subsingleton Cert.Pre_pre.S_.Idx := ⟨fun a b => funext fun x => x.elim0⟩
    have hi := Host.reduce_andi_all _ _ _ _ _ hall (ValueIdx.ix1 i)
    obtain ⟨h1, h2⟩ := and_one _ _ hi
    have e1 : IntOp.cmpi .sge (gs (ValueIdx.ix1 i)) 0#32 = 1#1 :=
      (congrArg (IntOp.cmpi .sge (gs (ValueIdx.ix1 i))) (bc0 Cert.Pre_pre.Facts.bcast_S_S128 (constantI shape0 32 0#32) (ValueIdx.ix1 i))).symm.trans h1
    have e2 : IntOp.cmpi .sle (gs (ValueIdx.ix1 i)) 65536#32 = 1#1 :=
      (congrArg (IntOp.cmpi .sle (gs (ValueIdx.ix1 i))) (bc0 Cert.Pre_pre.Facts.bcast_S_S128 (constantI shape0 32 65536#32) (ValueIdx.ix1 i))).symm.trans h2
    rw [WordCmp.cmpi_sge_zero] at e1
    have e1' := bit_true e1
    rw [WordCmp.cmpi_sle_of_lt e1' (by decide)] at e2
    exact bit_true e2
  have hle : ∀ i < 128, sizes gs i ≤ 65536 := fun i hi => by
    unfold sizes; rw [dif_pos hi]; exact hb ⟨i, hi⟩
  have htot := psum_le _ _ 128 hle
  have hs := reduce_sum gs (sizes gs) (sizes_dec gs) Cert.Pre_pre.Facts.reducesTo_S128_S_d0 Cert.Pre_pre.Facts.h_S_
  have hs' : BitVec.ofNat 32 (psum (sizes gs) 128) = 65536#32 := by
    have := hs.symm.trans (show _ = 65536#32 from ?_)
    · exact this
    · rw [WordCmp.cmpi_at, WordCmp.cmpi_eq_eq] at hsum
      exact bit_true hsum
  have := congrArg BitVec.toNat hs'
  rw [BitVec.toNat_ofNat, Nat.mod_eq_of_lt (by omega)] at this
  exact this

end Cert.Visits

end
-- ==== Proof.KernelWords.lean ====
/-
  The prefetched tables of `Kernel` read word by word: what a visit reads from each, the block indices and branch conditions
  these words give, and that every block lies inside its array.
-/
module

public import proofs.«01_k».proof.Proof.KernelBody
public import proofs.«01_k».proof.Proof.Precond
public import Idealize.ShloMosaic.Lib.PairWhole

@[expose] public section

set_option maxRecDepth 16384

noncomputable section

namespace Cert.Kernel.Gen

open Idealize.ShloMosaic Idealize.ShloMosaic.TcCoe Idealize.ShloMosaic.Tactic
open Idealize.ShloMosaic.Routing
open Cert.Visits

variable {F : FTy → Type} [FloatOps F]

/-! ## The branch conditions on small words -/

theorem bit_ne_zero (b : BitVec 1) : IntOp.cmpi .ne (b.setWidth 32) 0#32 = b := by revert b; decide

theorem cond1_iff {t l h : ℕ} (ht : t < 256) (hl : l ≤ 65536) (hh : h ≤ 65536) :
    k0_cond1 (BitVec.ofNat 32 t) (BitVec.ofNat 32 l) (BitVec.ofNat 32 h) = 1#1 ↔ l ≤ t * 256 ∧ t * 256 + 256 ≤ h := by
  have e1 : IntOp.muli (BitVec.ofNat 32 t) 256#32 = BitVec.ofNat 32 (t * 256) := (BitVec.ofNat_mul ..).symm
  have e2 : IntOp.addi (BitVec.ofNat 32 (t * 256)) 256#32 = BitVec.ofNat 32 (t * 256 + 256) := (BitVec.ofNat_add ..).symm
  show IntOp.cmpi .ne ((IntOp.andi (IntOp.cmpi .sle (BitVec.ofNat 32 l) (IntOp.muli (BitVec.ofNat 32 t) 256#32))
    (IntOp.cmpi .sge (BitVec.ofNat 32 h) (IntOp.addi (IntOp.muli (BitVec.ofNat 32 t) 256#32) 256#32))).setWidth 32) 0#32 = 1#1 ↔ _
  rw [bit_ne_zero, e1, e2, WordCmp.cmpi_sle_ofNat (by omega) (by omega), WordCmp.cmpi_sge_ofNat (by omega) (by omega)]
  by_cases h1 : l ≤ t * 256 <;> by_cases h2 : t * 256 + 256 ≤ h <;> simp [h1, h2, IntOp.andi]

theorem cond2_iff {t l h : ℕ} (ht : t < 256) (hl : l ≤ 65536) (hh : h ≤ 65536) :
    k0_cond2 (BitVec.ofNat 32 t) (BitVec.ofNat 32 l) (BitVec.ofNat 32 h) = 1#1 ↔ ¬ (l ≤ t * 256 ∧ t * 256 + 256 ≤ h) ∧ l < h := by
  have e1 : IntOp.muli (BitVec.ofNat 32 t) 256#32 = BitVec.ofNat 32 (t * 256) := (BitVec.ofNat_mul ..).symm
  have e2 : IntOp.addi (BitVec.ofNat 32 (t * 256)) 256#32 = BitVec.ofNat 32 (t * 256 + 256) := (BitVec.ofNat_add ..).symm
  show IntOp.cmpi .ne ((IntOp.andi (IntOp.xori (IntOp.andi (IntOp.cmpi .sle (BitVec.ofNat 32 l) (IntOp.muli (BitVec.ofNat 32 t) 256#32))
    (IntOp.cmpi .sge (BitVec.ofNat 32 h) (IntOp.addi (IntOp.muli (BitVec.ofNat 32 t) 256#32) 256#32))) 1#1)
    (IntOp.cmpi .sgt (BitVec.ofNat 32 h) (BitVec.ofNat 32 l))).setWidth 32) 0#32 = 1#1 ↔ _
  rw [bit_ne_zero, e1, e2, WordCmp.cmpi_sle_ofNat (by omega) (by omega), WordCmp.cmpi_sge_ofNat (by omega) (by omega),
    WordCmp.cmpi_sgt_ofNat (by omega) (by omega)]
  by_cases h1 : l ≤ t * 256 <;> by_cases h2 : t * 256 + 256 ≤ h <;> by_cases h3 : l < h <;> simp [h1, h2, h3, IntOp.andi, IntOp.xori]

/-! ## What a visit reads from a table -/

theorem off_val (i : grid0.Coords) : k0_off1 i 0 = (i 0).val := by
  have h : (i 0).val < 383 := (i 0).isLt
  show (BitVec.ofNat 32 (i 0).val).toNat = (i 0).val
  rw [BitVec.toNat_ofNat, Nat.mod_eq_of_lt (by omega)]

theorem entry_val (i : grid0.Coords) : entryAt i = ValueIdx.ix1 (⟨(i 0).val, (i 0).isLt⟩ : Fin 383) := by
  funext a
  refine Fin.ext ?_
  obtain rfl : a = (0 : Fin 1) := Subsingleton.elim _ _
  show k0_off1 i 0 + 1 * _ = (i 0).val
  rw [off_val]
  exact congrArg ((i 0).val + ·) (Nat.lt_one_iff.mp (show 1 * _ < 1 by rw [Nat.one_mul]; exact Fin.isLt _))

/-- The four tables hold the numbers of the visits of sizes `s`. -/
structure Tabs (pf : pre0.Contents (Elt F)) (s : ℕ → ℕ) : Prop where
  sum : psum s 128 = 65536
  g : Dec (n := 383) (pf 0) (tG s)
  t : Dec (n := 383) (pf 1) (tT s)
  l : Dec (n := 383) (pf 2) (tL s)
  h : Dec (n := 383) (pf 3) (tH s)

section
variable {pf : pre0.Contents (Elt F)} {s : ℕ → ℕ} (T : Tabs pf s)
include T

theorem Tabs.at0 (i : grid0.Coords) : (pf 0 : IVec S383 32) (entryAt i) = BitVec.ofNat 32 (tG s (i 0).val) := by rw [entry_val]; exact T.g _
theorem Tabs.at1 (i : grid0.Coords) : (pf 1 : IVec S383 32) (entryAt i) = BitVec.ofNat 32 (tT s (i 0).val) := by rw [entry_val]; exact T.t _
theorem Tabs.at2 (i : grid0.Coords) : (pf 2 : IVec S383 32) (entryAt i) = BitVec.ofNat 32 (tL s (i 0).val) := by rw [entry_val]; exact T.l _
theorem Tabs.at3 (i : grid0.Coords) : (pf 3 : IVec S383 32) (entryAt i) = BitVec.ofNat 32 (tH s (i 0).val) := by rw [entry_val]; exact T.h _

theorem toNat_small {k : ℕ} (h : k < 256) : (BitVec.ofNat 32 k).toNat = k := by
  rw [BitVec.toNat_ofNat, Nat.mod_eq_of_lt (by omega)]

theorem Tabs.ix_tile (i : grid0.Coords) : cc0_transform_4 k0_off1_inb numel1_S1 pf i = ![tT s (i 0).val, 0] := by
  have h := congrArg BitVec.toNat (T.at1 i)
  rw [toNat_small T (tT_lt T.sum _)] at h
  funext a
  match a with
  | 0 => exact h
  | 1 => rfl

theorem Tabs.ix_x (i : grid0.Coords) : cc0_transform_0 k0_off1_inb numel1_S1 pf i = ![tT s (i 0).val, 0] := T.ix_tile i
theorem Tabs.ix_xs (i : grid0.Coords) : cc0_transform_1 k0_off1_inb numel1_S1 pf i = ![tT s (i 0).val, 0] := T.ix_tile i

theorem Tabs.ix_w (i : grid0.Coords) : cc0_transform_2 k0_off1_inb numel1_S1 pf i = ![tG s (i 0).val, 0, 0] := by
  have h := congrArg BitVec.toNat (T.at0 i)
  rw [toNat_small T ((tG_lt T.sum _).trans (by omega))] at h
  funext a
  match a with
  | 0 => exact h
  | 1 => rfl
  | 2 => rfl

theorem Tabs.ix_ws (i : grid0.Coords) : cc0_transform_3 k0_off1_inb numel1_S1 pf i = ![tG s (i 0).val, 0, 0] := T.ix_w i

/-- The pipeline's side condition: every block lies inside its array, on whole words. -/
theorem Tabs.ok : ok0 pf := by
  have ht : ∀ i : grid0.Coords, tT s (i 0).val < 256 := fun i => tT_lt T.sum _
  have hg : ∀ i : grid0.Coords, tG s (i 0).val < 128 := fun i => tG_lt T.sum _
  unfold ok0
  refine ⟨fun i => ⟨fun a => ?_, .inr (Rect.packedRows_of_rowAxis _ _ (by decide) (Dvd.dvd.mul_left (show EltTy.packing .fp8e4m3 ∣ 256 by decide) _) (show EltTy.packing .fp8e4m3 ∣ 256 by decide) rfl).wholeWords⟩,
    fun i => ⟨fun a => ?_, .inl rfl⟩,
    fun i => ⟨fun a => ?_, .inr (Rect.packedRows_of_rowAxis _ _ (by decide) (Dvd.dvd.mul_left (show EltTy.packing .fp8e4m3 ∣ 768 by decide) _) (show EltTy.packing .fp8e4m3 ∣ 768 by decide) rfl).wholeWords⟩,
    fun i => ⟨fun a => ?_, .inl rfl⟩,
    fun i => ⟨fun a => ?_, .inr (Rect.packedRows_of_rowAxis _ _ (by decide) (Dvd.dvd.mul_left (show EltTy.packing .bf16 ∣ 256 by decide) _) (show EltTy.packing .bf16 ∣ 256 by decide) rfl).wholeWords⟩⟩
  · rw [T.ix_x]
    have := ht i
    match a with
    | 0 => show (tT s (i 0).val + 1) * 256 ≤ 65536; omega
    | 1 => show (0 + 1) * 768 ≤ 768; omega
  · rw [T.ix_xs]
    have := ht i
    match a with
    | 0 => show (tT s (i 0).val + 1) * 256 ≤ 65536; omega
    | 1 => show (0 + 1) * 1 ≤ 1; omega
  · rw [T.ix_w]
    have := hg i
    match a with
    | 0 => show (tG s (i 0).val + 1) * 1 ≤ 128; omega
    | 1 => show (0 + 1) * 768 ≤ 768; omega
    | 2 => show (0 + 1) * 2048 ≤ 2048; omega
  · rw [T.ix_ws]
    have := hg i
    match a with
    | 0 => show (tG s (i 0).val + 1) * 1 ≤ 128; omega
    | 1 => show (0 + 1) * 1 ≤ 1; omega
    | 2 => show (0 + 1) * 2048 ≤ 2048; omega
  · rw [T.ix_tile]
    have := ht i
    match a with
    | 0 => show (tT s (i 0).val + 1) * 256 ≤ 65536; omega
    | 1 => show (0 + 1) * 2048 ≤ 2048; omega

end

/-- The tables at the grid call, from the launch memory's group sizes. -/
theorem tabs_of (m : (ℓ : Loc nD τ sig) → Buf (Elt F) ℓ) {s : ℕ → ℕ} (hsum : psum s 128 = 65536)
    (hs : Dec (n := 128) (m (((0 : Dev nD).tc : Thread nD τ).loc main_arg2)) s) : Tabs (tbl m) s := by
  obtain ⟨h0, h1, h2, h3⟩ := tables (fun b => m ((0 : Dev nD), b)) hsum hs
  exact ⟨hsum, h0, h1, h2, h3⟩

end Cert.Kernel.Gen

end
-- ==== Proof.KernelFrame.lean ====
/-
  The frame of `Kernel`: every run ends, with the arguments unchanged and every semaphore at zero. What the output window holds
  is not named here.
-/
module

public import proofs.«01_k».proof.Proof.KernelWords
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ d, owns (c : Thread nD τ) (ms0_4 m hO t) fullShare d))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%d4, H4⟩⟩
  iapply ((bodyRun c (grid0.coords t) _ _ _ _ _ _ _ _ _ _ (iblk m hO c 0 t) (iblk m hO c 1 t) (iblk m hO c 2 t) (iblk m hO c 3 t) d4 (tbl m 0) (tbl m 1) (tbl m 2) (tbl m 3) _ _ _ rfl rfl rfl) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexists _; iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The arguments read back at the end of a run, for any proof data over the arrays as the grid call finds them. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (fun r => (Pipeline.RDat.FramePost ((Pipeline.pin pcfgs fun _ => adm m hO) 0) rdat (V m)) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => ⟨
      (Pipeline.RDat.FramePost.arr_in hh.1 c 0 rfl).trans ((hA c 0).trans (V_main_arg0 m c)),
      (Pipeline.RDat.FramePost.arr_in hh.1 c 1 rfl).trans ((hA c 1).trans (V_main_arg1 m c)),
      ((hh.1 c).2 main_arg2 (by decide : main_arg2 ∈ Pipeline.restRefs sig spec0)).trans (V_main_arg2 m c),
      (Pipeline.RDat.FramePost.arr_in hh.1 c 2 rfl).trans ((hA c 2).trans (V_main_arg3 m c)),
      ((hh.1 c).2 main_arg4 (by decide : main_arg4 ∈ Pipeline.restRefs sig spec0)).trans (V_main_arg4 m c)⟩, hh.2⟩) h

/-- The frame: from tables whose blocks lie inside their arrays, every run ends with the arguments as they were and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of m ρ hO (fun c => (dats m hO 0 c).toRForget forgets0) (A_eq m hO) (run_main_quiescent m ρ hO)

end Cert.Kernel.Gen

end
-- ==== Proof.KernelIdealTables.lean ====
/-
  What the host code of `KernelIdeal` before the grid call computes: from group sizes that fill the 65536 rows, the four tables
  (group, tile, first row, end row) hold the numbers of `Visits.lean`. One lemma per stretch of host operations, each over
  arbitrary contents `W` before the stretch; `tables` chains them.
-/
module

public import proofs.«01_k».proof.Proof.Gen.KernelIdeal.Launch
public import proofs.«01_k».proof.Proof.HostWords
public import Idealize.ShloMosaic.Lib.StableHlo.RunRead
public import Idealize.ShloMosaic.Lib.StableHlo.ReadAt

@[expose] public section

set_option maxRecDepth 16384

noncomputable section

namespace Cert.KernelIdeal.Gen
open Idealize.ShloMosaic Idealize.ShloMosaic.TcCoe Idealize.ShloMosaic.Tactic
open Idealize.ShloMosaic.Routing
open Cert.Visits

variable {F : FTy → Type} [FloatOps F]

section Stretches
variable (W : Valuation τ sig (Elt F)) {s : ℕ → ℕ}

/-- Where the groups end (`main_v0`) and where they start (`main_v1`). -/
theorem ends_starts (hs : Dec (n := 128) (W main_arg2) s) :
    Dec (n := 128) (StableHlo.after hostOps0_1 (StableHlo.after hostOps0 W) main_v0) (fun i => psum s (i + 1))
    ∧ Dec (n := 128) (StableHlo.after hostOps0_1 (StableHlo.after hostOps0 W) main_v1) (fun i => psum s i)
    ∧ (StableHlo.after hostOps0_1 (StableHlo.after hostOps0 W) main_c : IVec shape0 32) ValueIdx.ix0 = 256#32
    ∧ StableHlo.after hostOps0_1 (StableHlo.after hostOps0 W) main_arg2 = W main_arg2 := by
  refine ⟨?_, ?_, ?_, ?_⟩
  · after_reads_simp
    simp -implicitDefEqProofs only [StableHlo.TRef.toBuf, StableHlo.TRef.ofBuf, cast_cast, cast_eq]
    exact hs.cumsum _ (by rw [bc0]; rfl) _ _
  · after_reads_simp
    simp -implicitDefEqProofs only [StableHlo.TRef.toBuf, StableHlo.TRef.ofBuf, cast_cast, cast_eq]
    refine ((hs.cumsum _ (by rw [bc0]; rfl) _ _).sub hs fun i _ => ?_).congr fun i _ => ?_
    · rw [psum_succ]; omega
    · rw [psum_succ]; omega
  · after_reads_simp; rfl
  · after_reads_simp

/-- The groups' first tiles. -/
theorem firsts (hsum : psum s 128 = 65536) (h1 : Dec (n := 128) (W main_v1) (fun i => psum s i)) (hc : (W main_c : IVec shape0 32) ValueIdx.ix0 = 256#32) :
    Dec (n := 128) (StableHlo.after hostOps0_2 W main_v2) (fst s)
    ∧ StableHlo.after hostOps0_2 W main_v0 = W main_v0
    ∧ StableHlo.after hostOps0_2 W main_v1 = W main_v1
    ∧ StableHlo.after hostOps0_2 W main_arg2 = W main_arg2 := by
  refine ⟨?_, by after_reads_simp, by after_reads_simp, by after_reads_simp⟩
  after_reads_simp
  simp -implicitDefEqProofs only [StableHlo.TRef.toBuf, StableHlo.TRef.ofBuf, cast_cast, cast_eq]
  intro i
  have := psum_mono s (show i.val ≤ 128 by omega)
  exact floorDiv_at bcast_S_S128 (W main_c) hc i (h1 i) (by omega)

/-- The groups' last tiles, of the groups that do not end at row 0. -/
theorem lasts (hsum : psum s 128 = 65536) (h0 : Dec (n := 128) (W main_v0) (fun i => psum s (i + 1))) :
    (∀ i : Fin 128, 0 < psum s (i.val + 1) → (StableHlo.after hostOps0_4 (StableHlo.after hostOps0_3 W) main_v5 : IVec (shape1 128) 32) (ValueIdx.ix1 i) = BitVec.ofNat 32 (lst s i.val))
    ∧ StableHlo.after hostOps0_4 (StableHlo.after hostOps0_3 W) main_v0 = W main_v0
    ∧ StableHlo.after hostOps0_4 (StableHlo.after hostOps0_3 W) main_v1 = W main_v1
    ∧ StableHlo.after hostOps0_4 (StableHlo.after hostOps0_3 W) main_v2 = W main_v2
    ∧ StableHlo.after hostOps0_4 (StableHlo.after hostOps0_3 W) main_arg2 = W main_arg2 := by
  refine ⟨?_, by after_reads_simp, by after_reads_simp, by after_reads_simp, by after_reads_simp⟩
  after_reads_simp
  simp -implicitDefEqProofs only [StableHlo.TRef.toBuf, StableHlo.TRef.ofBuf, cast_cast, cast_eq]
  intro i hi
  have := psum_mono s (show i.val + 1 ≤ 128 by omega)
  refine floorDiv_at bcast_S_S128 (constantI shape0 32 256#32) rfl i (a := psum s (i.val + 1) - 1) ?_ (by omega)
  rw [subi_ap, h0 i]
  exact (congrArg (fun z => BitVec.ofNat 32 (psum s (i.val + 1)) - z) (bc0 bcast_S_S128 (constantI shape0 32 1#32) (ValueIdx.ix1 i))).trans (ofNat32_sub (b := 1) hi)

/-- How many tiles each group touches. -/
theorem counts (hsum : psum s 128 = 65536) (hs : Dec (n := 128) (W main_arg2) s) (h2 : Dec (n := 128) (W main_v2) (fst s))
    (h5 : ∀ i : Fin 128, 0 < psum s (i.val + 1) → (W main_v5 : IVec (shape1 128) 32) (ValueIdx.ix1 i) = BitVec.ofNat 32 (lst s i.val)) :
    Dec (n := 128) (StableHlo.after hostOps0_6 (StableHlo.after hostOps0_5 W) main_v11) (cnt s)
    ∧ StableHlo.after hostOps0_6 (StableHlo.after hostOps0_5 W) main_v0 = W main_v0
    ∧ StableHlo.after hostOps0_6 (StableHlo.after hostOps0_5 W) main_v1 = W main_v1
    ∧ StableHlo.after hostOps0_6 (StableHlo.after hostOps0_5 W) main_v2 = W main_v2 := by
  refine ⟨?_, by after_reads_simp, by after_reads_simp, by after_reads_simp⟩
  after_reads_simp
  simp -implicitDefEqProofs only [StableHlo.TRef.toBuf, StableHlo.TRef.ofBuf, cast_cast, cast_eq]
  exact Dec.counts hsum hs h2 h5 bcast_S_S128

/-- Where each group's visits end (`main_v12`) and start (`main_v13`), and the visits' numbers. -/
theorem visits (h11 : Dec (n := 128) (W main_v11) (cnt s)) :
    Dec (n := 128) (StableHlo.after hostOps0_8 (StableHlo.after hostOps0_7 W) main_v12) (fun i => psum (cnt s) (i + 1))
    ∧ Dec (n := 128) (StableHlo.after hostOps0_8 (StableHlo.after hostOps0_7 W) main_v13) (fun i => psum (cnt s) i)
    ∧ Dec (n := 383) (StableHlo.after hostOps0_8 (StableHlo.after hostOps0_7 W) main_v14) (fun i => i)
    ∧ StableHlo.after hostOps0_8 (StableHlo.after hostOps0_7 W) main_v0 = W main_v0
    ∧ StableHlo.after hostOps0_8 (StableHlo.after hostOps0_7 W) main_v1 = W main_v1
    ∧ StableHlo.after hostOps0_8 (StableHlo.after hostOps0_7 W) main_v2 = W main_v2 := by
  refine ⟨?_, ?_, ?_, by after_reads_simp, by after_reads_simp, by after_reads_simp⟩
  · after_reads_simp
    simp -implicitDefEqProofs only [StableHlo.TRef.toBuf, StableHlo.TRef.ofBuf, cast_cast, cast_eq]
    exact h11.cumsum _ (by rw [bc0]; rfl) _ _
  · after_reads_simp
    simp -implicitDefEqProofs only [StableHlo.TRef.toBuf, StableHlo.TRef.ofBuf, cast_cast, cast_eq]
    refine ((h11.cumsum _ (by rw [bc0]; rfl) _ _).sub h11 fun i _ => ?_).congr fun i _ => ?_
    · rw [psum_succ]; omega
    · rw [psum_succ]; omega
  · after_reads_simp
    exact fun i => iota1_ap i

/-- Each number's owner: the groups whose visits end at or before it, counted. -/
theorem owners (hsum : psum s 128 = 65536) (h12 : Dec (n := 128) (W main_v12) (fun i => psum (cnt s) (i + 1))) (h14 : Dec (n := 383) (W main_v14) (fun i => i)) :
    Dec (n := 383) (StableHlo.after hostOps0_9 W main_v15) (owner (cnt s))
    ∧ StableHlo.after hostOps0_9 W main_v0 = W main_v0
    ∧ StableHlo.after hostOps0_9 W main_v1 = W main_v1
    ∧ StableHlo.after hostOps0_9 W main_v2 = W main_v2
    ∧ StableHlo.after hostOps0_9 W main_v12 = W main_v12
    ∧ StableHlo.after hostOps0_9 W main_v13 = W main_v13
    ∧ StableHlo.after hostOps0_9 W main_v14 = W main_v14 := by
  refine ⟨?_, by after_reads_simp, by after_reads_simp, by after_reads_simp, by after_reads_simp, by after_reads_simp, by after_reads_simp⟩
  after_reads_simp
  simp -implicitDefEqProofs only [StableHlo.TRef.toBuf, StableHlo.TRef.ofBuf, cast_cast, cast_eq]
  intro i
  refine reduce_count_first (n := 128) (m := 383) (by decide) _ _ _ _ i (fun e => psum (cnt s) (e + 1) ≤ i.val) fun p => ?_
  rw [WordCmp.cmpi_at]
  have h1 := bcRows (n := 128) (m := 383) bcast_S128_S128x1_0 bcast_S128x1_S128x383_0_1 (W main_v12) p i
  have h2 := bcCols (n := 128) (m := 383) bcast_S383_S1x383_1 bcast_S1x383_S128x383_0_1 (W main_v14) p i
  have hm := psum_mono (cnt s) (show p.val + 1 ≤ 128 by omega)
  have hT := total_le hsum
  have := i.isLt
  refine Iff.trans (Eq.to_iff (congrArg (· = 1#1) (congrArg₂ (IntOp.cmpi .sle) (h1.trans (h12 p)) (h2.trans (h14 i))))) ?_
  exact sle_bit (a := psum (cnt s) (p.val + 1)) (b := i.val) (by omega) (by omega)

/-- The table of groups (`main_v22`); the mask of the live numbers (`main_v17`). -/
theorem groups (hsum : psum s 128 = 65536) (h12 : Dec (n := 128) (W main_v12) (fun i => psum (cnt s) (i + 1)))
    (h15 : Dec (n := 383) (W main_v15) (owner (cnt s))) :
    Dec (n := 383) (StableHlo.after hostOps0_12 (StableHlo.after hostOps0_11 (StableHlo.after hostOps0_10 W)) main_v22) (tG s)
    ∧ (∀ i : Fin 383, (StableHlo.after hostOps0_12 (StableHlo.after hostOps0_11 (StableHlo.after hostOps0_10 W)) main_v17 : IVec (shape1 383) 1) (ValueIdx.ix1 i)
        = BitVec.ofBool (decide (owner (cnt s) i.val < 128)))
    ∧ StableHlo.after hostOps0_12 (StableHlo.after hostOps0_11 (StableHlo.after hostOps0_10 W)) main_v0 = W main_v0
    ∧ StableHlo.after hostOps0_12 (StableHlo.after hostOps0_11 (StableHlo.after hostOps0_10 W)) main_v1 = W main_v1
    ∧ StableHlo.after hostOps0_12 (StableHlo.after hostOps0_11 (StableHlo.after hostOps0_10 W)) main_v2 = W main_v2
    ∧ StableHlo.after hostOps0_12 (StableHlo.after hostOps0_11 (StableHlo.after hostOps0_10 W)) main_v13 = W main_v13
    ∧ StableHlo.after hostOps0_12 (StableHlo.after hostOps0_11 (StableHlo.after hostOps0_10 W)) main_v14 = W main_v14 := by
  have h := Dec.groups hsum h12 h15 bcast_S_S383 bcast_S_S128 slices_S128_S1_127 shapeCasts_S1_S_ natLt_1_32 reducesTo_S128_S_d0 h_S_
  refine ⟨?_, ?_, by after_reads_simp, by after_reads_simp, by after_reads_simp, by after_reads_simp, by after_reads_simp⟩
  · after_reads_simp
    simp -implicitDefEqProofs only [StableHlo.TRef.toBuf, StableHlo.TRef.ofBuf, cast_cast, cast_eq]
    exact h.1
  · after_reads_simp
    exact h.2

/-- The table of tiles. -/
theorem tiles (hsum : psum s 128 = 65536) (h22 : Dec (n := 383) (W main_v22) (tG s))
    (h17 : ∀ i : Fin 383, (W main_v17 : IVec (shape1 383) 1) (ValueIdx.ix1 i) = BitVec.ofBool (decide (owner (cnt s) i.val < 128)))
    (h2 : Dec (n := 128) (W main_v2) (fst s)) (h13 : Dec (n := 128) (W main_v13) (fun i => psum (cnt s) i)) (h14 : Dec (n := 383) (W main_v14) (fun i => i)) :
    Dec (n := 383) (StableHlo.after hostOps0_14 (StableHlo.after hostOps0_13 W) main_v39) (tT s)
    ∧ StableHlo.after hostOps0_14 (StableHlo.after hostOps0_13 W) main_v0 = W main_v0
    ∧ StableHlo.after hostOps0_14 (StableHlo.after hostOps0_13 W) main_v1 = W main_v1
    ∧ StableHlo.after hostOps0_14 (StableHlo.after hostOps0_13 W) main_v22 = W main_v22
    ∧ StableHlo.after hostOps0_14 (StableHlo.after hostOps0_13 W) main_v17 = W main_v17 := by
  refine ⟨?_, by after_reads_simp, by after_reads_simp, by after_reads_simp, by after_reads_simp⟩
  after_reads_simp
  simp -implicitDefEqProofs only [StableHlo.TRef.toBuf, StableHlo.TRef.ofBuf, cast_cast, cast_eq]
  intro i
  have hg : ∀ j < 383, tG s j < 128 := fun j _ => tG_lt hsum j
  have hf := (h2.take h22 hg (by decide) gather_S128_S383x1_S383_n_0_n_n_0_1_1 rfl rfl rfl rfl bcast_S_S383 bcast_S383_S383x1_0
    (addi (W main_v22 : IVec (shape1 383) 32) (broadcastInDim (shape1 383) ![] bcast_S_S383 (constantI shape0 32 128#32)))).add h14
  have hv := h13.take h22 hg (by decide) gather_S128_S383x1_S383_n_0_n_n_0_1_1 rfl rfl rfl rfl bcast_S_S383 bcast_S383_S383x1_0
    (addi (W main_v22 : IVec (shape1 383) 32) (broadcastInDim (shape1 383) ![] bcast_S_S383 (constantI shape0 32 128#32)))
  rw [WordCmp.select_at, h17 i, select_bit]
  unfold tT
  split
  · rename_i h
    have ho := owner_spec (cnt s) ((owner_lt_iff _ _).1 h)
    have hgo : tG s i.val = owner (cnt s) i.val := if_pos h
    refine (congrArg₂ (· - ·) (hf i) (hv i)).trans ?_
    show BitVec.ofNat 32 (fst s (tG s i.val) + i.val) - BitVec.ofNat 32 (psum (cnt s) (tG s i.val)) = _
    rw [hgo]
    exact ofNat32_sub (by omega)
  · exact bc0 bcast_S_S383 _ _

/-- The table of first rows. -/
theorem rowsFrom (hsum : psum s 128 = 65536) (h22 : Dec (n := 383) (W main_v22) (tG s))
    (h17 : ∀ i : Fin 383, (W main_v17 : IVec (shape1 383) 1) (ValueIdx.ix1 i) = BitVec.ofBool (decide (owner (cnt s) i.val < 128)))
    (h1 : Dec (n := 128) (W main_v1) (fun i => psum s i)) :
    Dec (n := 383) (StableHlo.after hostOps0_16 (StableHlo.after hostOps0_15 W) main_v47) (tL s)
    ∧ StableHlo.after hostOps0_16 (StableHlo.after hostOps0_15 W) main_v0 = W main_v0
    ∧ StableHlo.after hostOps0_16 (StableHlo.after hostOps0_15 W) main_v22 = W main_v22
    ∧ StableHlo.after hostOps0_16 (StableHlo.after hostOps0_15 W) main_v17 = W main_v17
    ∧ StableHlo.after hostOps0_16 (StableHlo.after hostOps0_15 W) main_v39 = W main_v39 := by
  refine ⟨?_, by after_reads_simp, by after_reads_simp, by after_reads_simp, by after_reads_simp⟩
  after_reads_simp
  simp -implicitDefEqProofs only [StableHlo.TRef.toBuf, StableHlo.TRef.ofBuf, cast_cast, cast_eq]
  intro i
  have hf := h1.take h22 (fun j _ => tG_lt hsum j) (by decide) gather_S128_S383x1_S383_n_0_n_n_0_1_1 rfl rfl rfl rfl bcast_S_S383 bcast_S383_S383x1_0
    (addi (W main_v22 : IVec (shape1 383) 32) (broadcastInDim (shape1 383) ![] bcast_S_S383 (constantI shape0 32 128#32)))
  rw [WordCmp.select_at, h17 i, select_bit]
  unfold tL
  split
  · rename_i h
    have hgo : tG s i.val = owner (cnt s) i.val := if_pos h
    rw [← hgo]
    exact hf i
  · exact bc0 bcast_S_S383 _ _

/-- The table of end rows. -/
theorem rowsTo (hsum : psum s 128 = 65536) (h22 : Dec (n := 383) (W main_v22) (tG s))
    (h17 : ∀ i : Fin 383, (W main_v17 : IVec (shape1 383) 1) (ValueIdx.ix1 i) = BitVec.ofBool (decide (owner (cnt s) i.val < 128)))
    (h0 : Dec (n := 128) (W main_v0) (fun i => psum s (i + 1))) :
    Dec (n := 383) (StableHlo.after hostOps0_18 (StableHlo.after hostOps0_17 W) main_v55) (tH s)
    ∧ StableHlo.after hostOps0_18 (StableHlo.after hostOps0_17 W) main_v22 = W main_v22
    ∧ StableHlo.after hostOps0_18 (StableHlo.after hostOps0_17 W) main_v39 = W main_v39
    ∧ StableHlo.after hostOps0_18 (StableHlo.after hostOps0_17 W) main_v47 = W main_v47 := by
  refine ⟨?_, by after_reads_simp, by after_reads_simp, by after_reads_simp⟩
  after_reads_simp
  simp -implicitDefEqProofs only [StableHlo.TRef.toBuf, StableHlo.TRef.ofBuf, cast_cast, cast_eq]
  intro i
  have hf := h0.take h22 (fun j _ => tG_lt hsum j) (by decide) gather_S128_S383x1_S383_n_0_n_n_0_1_1 rfl rfl rfl rfl bcast_S_S383 bcast_S383_S383x1_0
    (addi (W main_v22 : IVec (shape1 383) 32) (broadcastInDim (shape1 383) ![] bcast_S_S383 (constantI shape0 32 128#32)))
  rw [WordCmp.select_at, h17 i, select_bit]
  unfold tH
  split
  · rename_i h
    have hgo : tG s i.val = owner (cnt s) i.val := if_pos h
    rw [← hgo]
    exact hf i
  · exact bc0 bcast_S_S383 _ _

end Stretches

/-- The host operations before the grid call, stretch by stretch. -/
def hostLines : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19]

theorem after_hostLines (W : Valuation τ sig (Elt F)) : StableHlo.after hostLines.flatten W
    = StableHlo.after hostOps0_19 (StableHlo.after hostOps0_18 (StableHlo.after hostOps0_17 (StableHlo.after hostOps0_16 (StableHlo.after hostOps0_15
      (StableHlo.after hostOps0_14 (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1 (StableHlo.after hostOps0 W))))))))))))))))))) := by
  unfold hostLines
  simp only [List.flatten_cons, List.flatten_nil, List.append_nil, StableHlo.after_append]

/-- THE TABLES at the grid call, from group sizes that fill the rows. -/
theorem tables (W : Valuation τ sig (Elt F)) {s : ℕ → ℕ} (hsum : psum s 128 = 65536) (hs : Dec (n := 128) (W main_arg2) s) :
    Dec (n := 383) (StableHlo.after hostLines.flatten W main_v22) (tG s)
    ∧ Dec (n := 383) (StableHlo.after hostLines.flatten W main_v39) (tT s)
    ∧ Dec (n := 383) (StableHlo.after hostLines.flatten W main_v47) (tL s)
    ∧ Dec (n := 383) (StableHlo.after hostLines.flatten W main_v55) (tH s) := by
  rw [after_hostLines]
  obtain ⟨a0, a1, ac, ag⟩ := ends_starts W hs
  generalize StableHlo.after hostOps0_1 (StableHlo.after hostOps0 W) = W1 at *
  rw [← ag] at hs
  obtain ⟨b2, b0, b1, bg⟩ := firsts W1 hsum a1 ac
  generalize StableHlo.after hostOps0_2 W1 = W2 at *
  rw [← b0] at a0; rw [← b1] at a1; rw [← bg] at hs
  obtain ⟨c5, c0, c1, c2, cg⟩ := lasts W2 hsum a0
  generalize StableHlo.after hostOps0_4 (StableHlo.after hostOps0_3 W2) = W3 at *
  rw [← c0] at a0; rw [← c1] at a1; rw [← c2] at b2; rw [← cg] at hs
  obtain ⟨d11, d0, d1, d2⟩ := counts W3 hsum hs b2 c5
  generalize StableHlo.after hostOps0_6 (StableHlo.after hostOps0_5 W3) = W4 at *
  rw [← d0] at a0; rw [← d1] at a1; rw [← d2] at b2
  obtain ⟨e12, e13, e14, e0, e1, e2⟩ := visits W4 d11
  generalize StableHlo.after hostOps0_8 (StableHlo.after hostOps0_7 W4) = W5 at *
  rw [← e0] at a0; rw [← e1] at a1; rw [← e2] at b2
  obtain ⟨f15, f0, f1, f2, f12, f13, f14⟩ := owners W5 hsum e12 e14
  generalize StableHlo.after hostOps0_9 W5 = W6 at *
  rw [← f0] at a0; rw [← f1] at a1; rw [← f2] at b2; rw [← f12] at e12; rw [← f13] at e13; rw [← f14] at e14
  obtain ⟨g22, g17, g0, g1, g2, g13, g14⟩ := groups W6 hsum e12 f15
  generalize StableHlo.after hostOps0_12 (StableHlo.after hostOps0_11 (StableHlo.after hostOps0_10 W6)) = W7 at *
  rw [← g0] at a0; rw [← g1] at a1; rw [← g2] at b2; rw [← g13] at e13; rw [← g14] at e14
  obtain ⟨h39, h0, h1, h22, h17⟩ := tiles W7 hsum g22 g17 b2 e13 e14
  generalize StableHlo.after hostOps0_14 (StableHlo.after hostOps0_13 W7) = W8 at *
  rw [← h0] at a0; rw [← h1] at a1; rw [← h22] at g22; rw [← h17] at g17
  obtain ⟨i47, i0, i22, i17, i39⟩ := rowsFrom W8 hsum g22 g17 a1
  generalize StableHlo.after hostOps0_16 (StableHlo.after hostOps0_15 W8) = W9 at *
  rw [← i0] at a0; rw [← i22] at g22; rw [← i17] at g17; rw [← i39] at h39
  obtain ⟨j55, j22, j39, j47⟩ := rowsTo W9 hsum g22 g17 a0
  generalize StableHlo.after hostOps0_18 (StableHlo.after hostOps0_17 W9) = W10 at *
  rw [← j22] at g22; rw [← j39] at h39; rw [← j47] at i47
  rw [show StableHlo.after hostOps0_19 W10 main_v22 = W10 main_v22 by after_reads_simp,
    show StableHlo.after hostOps0_19 W10 main_v39 = W10 main_v39 by after_reads_simp,
    show StableHlo.after hostOps0_19 W10 main_v47 = W10 main_v47 by after_reads_simp,
    show StableHlo.after hostOps0_19 W10 main_v55 = W10 main_v55 by after_reads_simp]
  exact ⟨g22, h39, i47, j55⟩

end Cert.KernelIdeal.Gen

end
-- ==== Proof.KernelIdealRegion.lean ====
/-
  The grid call of `KernelIdeal` as its launch sees it: what every buffer holds when the call is entered, the four prefetched tables,
  the blocks its windows stage, and its arguments read back. Stated over any number type.
-/
module

public import proofs.«01_k».proof.Proof.KernelIdealTables
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.Pipeline.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the grid call is entered: the launch contents after the host operations. -/
def V (c : Dev nD) (b : Ref sig .tc) : Buf (Elt F) ((c : Thread nD τ).loc b) :=
  StableHlo.after hostLines.flatten (fun b => m (c, b)) b

theorem hostLines_sub : (hostLines (F := F)).Forall fun ops => ops.Forall fun op => op.bufs ⊆ StableHlo.tcRefs τ sig := by
  unfold hostLines
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩

theorem hostLines_fresh : (hostLines (F := F)).Forall fun ops => ops.Forall fun op => op.fresh = ∅ := by
  unfold hostLines
  simp only [List.Forall]
  repeat' constructor

/-- The program up to the grid call: the host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh fun c => (main_chain c).trans rfl

/-- A buffer no host operation writes is found as launched. -/
theorem V_kept (c : Dev nD) (b : Ref sig .tc)
    (h : (hostLines (F := F)).flatten.Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := V_kept m c main_arg0 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))
theorem V_main_arg1 (c : Dev nD) : V m c main_arg1 = m ((c : Thread nD τ).loc main_arg1) := V_kept m c main_arg1 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))
theorem V_main_arg2 (c : Dev nD) : V m c main_arg2 = m ((c : Thread nD τ).loc main_arg2) := V_kept m c main_arg2 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))
theorem V_main_arg3 (c : Dev nD) : V m c main_arg3 = m ((c : Thread nD τ).loc main_arg3) := V_kept m c main_arg3 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))
theorem V_main_arg4 (c : Dev nD) : V m c main_arg4 = m ((c : Thread nD τ).loc main_arg4) := V_kept m c main_arg4 (by
    simp only [hostLines, List.flatten_cons, List.flatten_nil, List.append_nil, List.cons_append, List.nil_append, List.Forall, StableHlo.nullary_writes, StableHlo.unary_writes, StableHlo.binary_writes, StableHlo.ternary_writes, StableHlo.TRef.nullary, StableHlo.TRef.unary, StableHlo.TRef.binary, StableHlo.TRef.ternary, StableHlo.reshape_writes, Finset.mem_singleton]
    repeat' apply And.intro
    all_goals exact StableHlo.devRef_ne_of_ne (by decide))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S383 .i32 := Memref.whole main_v22
abbrev htbM0_0 : tbM0_0.IsWhole := Memref.isWhole_whole _
abbrev tbM0_1 : Memref sig .tc .smem S383 .i32 := Memref.whole main_v39
abbrev htbM0_1 : tbM0_1.IsWhole := Memref.isWhole_whole _
abbrev tbM0_2 : Memref sig .tc .smem S383 .i32 := Memref.whole main_v47
abbrev htbM0_2 : tbM0_2.IsWhole := Memref.isWhole_whole _
abbrev tbM0_3 : Memref sig .tc .smem S383 .i32 := Memref.whole main_v55
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every visit, for any proof data whose arrays are `V`'s and whose body
    leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every visit, for any proof data whose arrays are `V`'s and whose body
    leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every visit, for any proof data whose arrays are `V`'s and whose body
    leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every visit, for any proof data whose arrays are `V`'s and whose body
    leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x768 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x768x2048 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2048 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__gmm_kernel (grid0.coords t) (Memref.whole main_v22) (Memref.isWhole_whole _) (Memref.whole main_v39) (Memref.isWhole_whole _) (Memref.whole main_v47) (Memref.isWhole_whole _) (Memref.whole main_v55) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.KernelIdeal.Gen

end
-- ==== Proof.KernelIdealBody.lean ====
/-
  One visit of the kernel body of `KernelIdeal`, run on any staging buffers: what the output's buffer holds afterwards, as a function
  of the three table words of the visit, the four staged blocks and what the buffer held before.
-/
module

public import proofs.«01_k».proof.Proof.KernelIdealRegion
public import Idealize.ShloMosaic.Lib.Tactic
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table entry a visit reads. -/
abbrev entryAt (i : grid0.Coords) : S383.Idx :=
  (Rect.unit (s := S383) (k0_off1 i) S1.size (k0_off1_inb i)).point numel1_S1

/-- What one visit leaves in the output's buffer: the whole block, or the group's rows of it, or what was there. -/
def bodyVal (v1 v4 v6 : BitVec 32) (d : Vec F S256x2048 .bf16) (x : Vec F S256x768 .fp8e4m3) (xs : Vec F S256x1 .f32)
    (w : Vec F S1x768x2048 .fp8e4m3) (ws : Vec F S1x1x2048 .f32) : Vec F S256x2048 .bf16 :=
  let mid : Vec F S256x2048 .bf16 := if k0_cond1 v1 v4 v6 = 1#1 then k0_pay1 x w xs ws else d
  if k0_cond2 v1 v4 v6 = 1#1 then k0_pay2 v1 v4 v6 mid x w xs ws else mid

set_option maxHeartbeats 1000000 in
/-- The body's triple. -/
theorem bodyRun (c : Dev nD) (i : grid0.Coords) (arg5 : Memref sig .tc .vmem S256x768 .fp8e4m3) (harg5 : arg5.IsWhole) (arg6 : Memref sig .tc .vmem S256x1 .f32) (harg6 : arg6.IsWhole) (arg7 : Memref sig .tc .vmem S1x768x2048 .fp8e4m3) (harg7 : arg7.IsWhole) (arg8 : Memref sig .tc .vmem S1x1x2048 .f32) (harg8 : arg8.IsWhole) (arg9 : Memref sig .tc .vmem S256x2048 .bf16) (harg9 : arg9.IsWhole)
    (x0 : Vec F S256x768 .fp8e4m3) (x1 : Vec F S256x1 .f32) (x2 : Vec F S1x768x2048 .fp8e4m3) (x3 : Vec F S1x1x2048 .f32) (d4 : Vec F S256x2048 .bf16)
    (xt0 : TbBuf0 (F := F) c tbM0_0) (xt1 : TbBuf0 (F := F) c tbM0_1) (xt2 : TbBuf0 (F := F) c tbM0_2) (xt3 : TbBuf0 (F := F) c tbM0_3)
    (v1 v4 v6 : BitVec 32) (h1 : tbM0_1.view.read (Elt F) xt1 (entryAt i) = v1) (h2 : tbM0_2.view.read (Elt F) xt2 (entryAt i) = v4)
    (h3 : tbM0_3.view.read (Elt F) xt3 (entryAt i) = v6) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare d4 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (bodyVal v1 v4 v6 d4 x0 x1 x2 x3) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__gmm_kernel i tbM0_0 htbM0_0 tbM0_1 htbM0_1 tbM0_2 htbM0_2 tbM0_3 htbM0_3 arg5 harg5 arg6 harg6 arg7 harg7 arg8 harg8 arg9 harg9) K := by
    intro E K
    simp only [cc0__gmm_kernel_eq_skeleton]; unfold cc0__gmm_kernel_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec
    sl_step
    have e1 : bodyRun.sl.r c i xt1 = v1 := h1
    have e2 : bodyRun.sl.r_1 c i xt2 = v4 := h2
    have e3 : bodyRun.sl.r_2 c i xt3 = v6 := h3
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      unfold bodyRun.sl.v28
      rw [e1, e2, e3]
      unfold bodyVal
      have l0 : arg5.view.readAt (Elt F) (Rect.unit ![0, 0] S256x768.size inb_S256x768_S256x768_0_0).toLoadRect (harg5.unread x0) = x0 :=
        (View.readAt_full _ _ _).trans hf0
      have l1 : arg6.view.readAt (Elt F) (Rect.unit ![0, 0] S256x1.size inb_S256x1_S256x1_0_0).toLoadRect (harg6.unread x1) = x1 :=
        (View.readAt_full _ _ _).trans hf1
      have l2 : arg7.view.readAt (Elt F) (Rect.unit ![0, 0, 0] S1x768x2048.size inb_S1x768x2048_S1x768x2048_0_0_0).toLoadRect (harg7.unread x2) = x2 :=
        (View.readAt_full _ _ _).trans hf2
      have l3 : arg8.view.readAt (Elt F) (Rect.unit ![0, 0, 0] S1x1x2048.size inb_S1x1x2048_S1x1x2048_0_0_0).toLoadRect (harg8.unread x3) = x3 :=
        (View.readAt_full _ _ _).trans hf3
      have l4 : ∀ f, arg9.view.readAt (Elt F) (Rect.unit ![0, 0] S256x2048.size inb_S256x2048_S256x2048_0_0).toLoadRect f = arg9.view.read (Elt F) f :=
        fun f => View.readAt_full _ _ _
      have wf : ∀ f w, arg9.view.read (Elt F) (arg9.view.writes (Elt F) f [⟨Rect.unit ![0, 0] S256x2048.size inb_S256x2048_S256x2048_0_0, w⟩]) = w :=
        fun f w => View.read_writes_full _ _ _ _ _
      rw [l0, l1, l2, l3, l4]
      by_cases c1 : k0_cond1 v1 v4 v6 = 1#1
      · by_cases c2 : k0_cond2 v1 v4 v6 = 1#1
        · rw [dif_pos c2, dif_pos c1, if_pos c2, if_pos c1, wf, wf]
        · rw [dif_neg c2, dif_pos c1, if_neg c2, if_pos c1, wf]
      · by_cases c2 : k0_cond2 v1 v4 v6 = 1#1
        · rw [dif_pos c2, dif_neg c1, if_pos c2, if_neg c1, wf, hf4]
        · rw [dif_neg c2, dif_neg c1, if_neg c2, if_neg c1, hf4]
    isplitl [HT0]; · iexact HT0
    isplitl [HT1]; · iexact HT1
    isplitl [HT2]; · iexact HT2
    iexact HT3

end Cert.KernelIdeal.Gen

end
-- ==== Proof.KernelIdealWords.lean ====
/-
  The prefetched tables of `KernelIdeal` read word by word: what a visit reads from each, the block indices and branch conditions
  these words give, and that every block lies inside its array.
-/
module

public import proofs.«01_k».proof.Proof.KernelIdealBody
public import proofs.«01_k».proof.Proof.Precond
public import Idealize.ShloMosaic.Lib.PairWhole

@[expose] public section

set_option maxRecDepth 16384

noncomputable section

namespace Cert.KernelIdeal.Gen

open Idealize.ShloMosaic Idealize.ShloMosaic.TcCoe Idealize.ShloMosaic.Tactic
open Idealize.ShloMosaic.Routing
open Cert.Visits

variable {F : FTy → Type} [FloatOps F]

/-! ## The branch conditions on small words -/

theorem bit_ne_zero (b : BitVec 1) : IntOp.cmpi .ne (b.setWidth 32) 0#32 = b := by revert b; decide

theorem cond1_iff {t l h : ℕ} (ht : t < 256) (hl : l ≤ 65536) (hh : h ≤ 65536) :
    k0_cond1 (BitVec.ofNat 32 t) (BitVec.ofNat 32 l) (BitVec.ofNat 32 h) = 1#1 ↔ l ≤ t * 256 ∧ t * 256 + 256 ≤ h := by
  have e1 : IntOp.muli (BitVec.ofNat 32 t) 256#32 = BitVec.ofNat 32 (t * 256) := (BitVec.ofNat_mul ..).symm
  have e2 : IntOp.addi (BitVec.ofNat 32 (t * 256)) 256#32 = BitVec.ofNat 32 (t * 256 + 256) := (BitVec.ofNat_add ..).symm
  show IntOp.cmpi .ne ((IntOp.andi (IntOp.cmpi .sle (BitVec.ofNat 32 l) (IntOp.muli (BitVec.ofNat 32 t) 256#32))
    (IntOp.cmpi .sge (BitVec.ofNat 32 h) (IntOp.addi (IntOp.muli (BitVec.ofNat 32 t) 256#32) 256#32))).setWidth 32) 0#32 = 1#1 ↔ _
  rw [bit_ne_zero, e1, e2, WordCmp.cmpi_sle_ofNat (by omega) (by omega), WordCmp.cmpi_sge_ofNat (by omega) (by omega)]
  by_cases h1 : l ≤ t * 256 <;> by_cases h2 : t * 256 + 256 ≤ h <;> simp [h1, h2, IntOp.andi]

theorem cond2_iff {t l h : ℕ} (ht : t < 256) (hl : l ≤ 65536) (hh : h ≤ 65536) :
    k0_cond2 (BitVec.ofNat 32 t) (BitVec.ofNat 32 l) (BitVec.ofNat 32 h) = 1#1 ↔ ¬ (l ≤ t * 256 ∧ t * 256 + 256 ≤ h) ∧ l < h := by
  have e1 : IntOp.muli (BitVec.ofNat 32 t) 256#32 = BitVec.ofNat 32 (t * 256) := (BitVec.ofNat_mul ..).symm
  have e2 : IntOp.addi (BitVec.ofNat 32 (t * 256)) 256#32 = BitVec.ofNat 32 (t * 256 + 256) := (BitVec.ofNat_add ..).symm
  show IntOp.cmpi .ne ((IntOp.andi (IntOp.xori (IntOp.andi (IntOp.cmpi .sle (BitVec.ofNat 32 l) (IntOp.muli (BitVec.ofNat 32 t) 256#32))
    (IntOp.cmpi .sge (BitVec.ofNat 32 h) (IntOp.addi (IntOp.muli (BitVec.ofNat 32 t) 256#32) 256#32))) 1#1)
    (IntOp.cmpi .sgt (BitVec.ofNat 32 h) (BitVec.ofNat 32 l))).setWidth 32) 0#32 = 1#1 ↔ _
  rw [bit_ne_zero, e1, e2, WordCmp.cmpi_sle_ofNat (by omega) (by omega), WordCmp.cmpi_sge_ofNat (by omega) (by omega),
    WordCmp.cmpi_sgt_ofNat (by omega) (by omega)]
  by_cases h1 : l ≤ t * 256 <;> by_cases h2 : t * 256 + 256 ≤ h <;> by_cases h3 : l < h <;> simp [h1, h2, h3, IntOp.andi, IntOp.xori]

/-! ## What a visit reads from a table -/

theorem off_val (i : grid0.Coords) : k0_off1 i 0 = (i 0).val := by
  have h : (i 0).val < 383 := (i 0).isLt
  show (BitVec.ofNat 32 (i 0).val).toNat = (i 0).val
  rw [BitVec.toNat_ofNat, Nat.mod_eq_of_lt (by omega)]

theorem entry_val (i : grid0.Coords) : entryAt i = ValueIdx.ix1 (⟨(i 0).val, (i 0).isLt⟩ : Fin 383) := by
  funext a
  refine Fin.ext ?_
  obtain rfl : a = (0 : Fin 1) := Subsingleton.elim _ _
  show k0_off1 i 0 + 1 * _ = (i 0).val
  rw [off_val]
  exact congrArg ((i 0).val + ·) (Nat.lt_one_iff.mp (show 1 * _ < 1 by rw [Nat.one_mul]; exact Fin.isLt _))

/-- The four tables hold the numbers of the visits of sizes `s`. -/
structure Tabs (pf : pre0.Contents (Elt F)) (s : ℕ → ℕ) : Prop where
  sum : psum s 128 = 65536
  g : Dec (n := 383) (pf 0) (tG s)
  t : Dec (n := 383) (pf 1) (tT s)
  l : Dec (n := 383) (pf 2) (tL s)
  h : Dec (n := 383) (pf 3) (tH s)

section
variable {pf : pre0.Contents (Elt F)} {s : ℕ → ℕ} (T : Tabs pf s)
include T

theorem Tabs.at0 (i : grid0.Coords) : (pf 0 : IVec S383 32) (entryAt i) = BitVec.ofNat 32 (tG s (i 0).val) := by rw [entry_val]; exact T.g _
theorem Tabs.at1 (i : grid0.Coords) : (pf 1 : IVec S383 32) (entryAt i) = BitVec.ofNat 32 (tT s (i 0).val) := by rw [entry_val]; exact T.t _
theorem Tabs.at2 (i : grid0.Coords) : (pf 2 : IVec S383 32) (entryAt i) = BitVec.ofNat 32 (tL s (i 0).val) := by rw [entry_val]; exact T.l _
theorem Tabs.at3 (i : grid0.Coords) : (pf 3 : IVec S383 32) (entryAt i) = BitVec.ofNat 32 (tH s (i 0).val) := by rw [entry_val]; exact T.h _

theorem toNat_small {k : ℕ} (h : k < 256) : (BitVec.ofNat 32 k).toNat = k := by
  rw [BitVec.toNat_ofNat, Nat.mod_eq_of_lt (by omega)]

theorem Tabs.ix_tile (i : grid0.Coords) : cc0_transform_4 k0_off1_inb numel1_S1 pf i = ![tT s (i 0).val, 0] := by
  have h := congrArg BitVec.toNat (T.at1 i)
  rw [toNat_small T (tT_lt T.sum _)] at h
  funext a
  match a with
  | 0 => exact h
  | 1 => rfl

theorem Tabs.ix_x (i : grid0.Coords) : cc0_transform_0 k0_off1_inb numel1_S1 pf i = ![tT s (i 0).val, 0] := T.ix_tile i
theorem Tabs.ix_xs (i : grid0.Coords) : cc0_transform_1 k0_off1_inb numel1_S1 pf i = ![tT s (i 0).val, 0] := T.ix_tile i

theorem Tabs.ix_w (i : grid0.Coords) : cc0_transform_2 k0_off1_inb numel1_S1 pf i = ![tG s (i 0).val, 0, 0] := by
  have h := congrArg BitVec.toNat (T.at0 i)
  rw [toNat_small T ((tG_lt T.sum _).trans (by omega))] at h
  funext a
  match a with
  | 0 => exact h
  | 1 => rfl
  | 2 => rfl

theorem Tabs.ix_ws (i : grid0.Coords) : cc0_transform_3 k0_off1_inb numel1_S1 pf i = ![tG s (i 0).val, 0, 0] := T.ix_w i

/-- The pipeline's side condition: every block lies inside its array, on whole words. -/
theorem Tabs.ok : ok0 pf := by
  have ht : ∀ i : grid0.Coords, tT s (i 0).val < 256 := fun i => tT_lt T.sum _
  have hg : ∀ i : grid0.Coords, tG s (i 0).val < 128 := fun i => tG_lt T.sum _
  unfold ok0
  refine ⟨fun i => ⟨fun a => ?_, .inr (Rect.packedRows_of_rowAxis _ _ (by decide) (Dvd.dvd.mul_left (show EltTy.packing .fp8e4m3 ∣ 256 by decide) _) (show EltTy.packing .fp8e4m3 ∣ 256 by decide) rfl).wholeWords⟩,
    fun i => ⟨fun a => ?_, .inl rfl⟩,
    fun i => ⟨fun a => ?_, .inr (Rect.packedRows_of_rowAxis _ _ (by decide) (Dvd.dvd.mul_left (show EltTy.packing .fp8e4m3 ∣ 768 by decide) _) (show EltTy.packing .fp8e4m3 ∣ 768 by decide) rfl).wholeWords⟩,
    fun i => ⟨fun a => ?_, .inl rfl⟩,
    fun i => ⟨fun a => ?_, .inr (Rect.packedRows_of_rowAxis _ _ (by decide) (Dvd.dvd.mul_left (show EltTy.packing .bf16 ∣ 256 by decide) _) (show EltTy.packing .bf16 ∣ 256 by decide) rfl).wholeWords⟩⟩
  · rw [T.ix_x]
    have := ht i
    match a with
    | 0 => show (tT s (i 0).val + 1) * 256 ≤ 65536; omega
    | 1 => show (0 + 1) * 768 ≤ 768; omega
  · rw [T.ix_xs]
    have := ht i
    match a with
    | 0 => show (tT s (i 0).val + 1) * 256 ≤ 65536; omega
    | 1 => show (0 + 1) * 1 ≤ 1; omega
  · rw [T.ix_w]
    have := hg i
    match a with
    | 0 => show (tG s (i 0).val + 1) * 1 ≤ 128; omega
    | 1 => show (0 + 1) * 768 ≤ 768; omega
    | 2 => show (0 + 1) * 2048 ≤ 2048; omega
  · rw [T.ix_ws]
    have := hg i
    match a with
    | 0 => show (tG s (i 0).val + 1) * 1 ≤ 128; omega
    | 1 => show (0 + 1) * 1 ≤ 1; omega
    | 2 => show (0 + 1) * 2048 ≤ 2048; omega
  · rw [T.ix_tile]
    have := ht i
    match a with
    | 0 => show (tT s (i 0).val + 1) * 256 ≤ 65536; omega
    | 1 => show (0 + 1) * 2048 ≤ 2048; omega

end

/-- The tables at the grid call, from the launch memory's group sizes. -/
theorem tabs_of (m : (ℓ : Loc nD τ sig) → Buf (Elt F) ℓ) {s : ℕ → ℕ} (hsum : psum s 128 = 65536)
    (hs : Dec (n := 128) (m (((0 : Dev nD).tc : Thread nD τ).loc main_arg2)) s) : Tabs (tbl m) s := by
  obtain ⟨h0, h1, h2, h3⟩ := tables (fun b => m ((0 : Dev nD), b)) hsum hs
  exact ⟨hsum, h0, h1, h2, h3⟩

end Cert.KernelIdeal.Gen

end
-- ==== Proof.KernelIdealFrame.lean ====
/-
  The frame of `KernelIdeal`: every run ends, with the arguments unchanged and every semaphore at zero. What the output window holds
  is not named here.
-/
module

public import proofs.«01_k».proof.Proof.KernelIdealWords
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ d, owns (c : Thread nD τ) (ms0_4 m hO t) fullShare d))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%d4, H4⟩⟩
  iapply ((bodyRun c (grid0.coords t) _ _ _ _ _ _ _ _ _ _ (iblk m hO c 0 t) (iblk m hO c 1 t) (iblk m hO c 2 t) (iblk m hO c 3 t) d4 (tbl m 0) (tbl m 1) (tbl m 2) (tbl m 3) _ _ _ rfl rfl rfl) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexists _; iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The arguments read back at the end of a run, for any proof data over the arrays as the grid call finds them. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (fun r => (Pipeline.RDat.FramePost ((Pipeline.pin pcfgs fun _ => adm m hO) 0) rdat (V m)) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => ⟨
      (Pipeline.RDat.FramePost.arr_in hh.1 c 0 rfl).trans ((hA c 0).trans (V_main_arg0 m c)),
      (Pipeline.RDat.FramePost.arr_in hh.1 c 1 rfl).trans ((hA c 1).trans (V_main_arg1 m c)),
      ((hh.1 c).2 main_arg2 (by decide : main_arg2 ∈ Pipeline.restRefs sig spec0)).trans (V_main_arg2 m c),
      (Pipeline.RDat.FramePost.arr_in hh.1 c 2 rfl).trans ((hA c 2).trans (V_main_arg3 m c)),
      ((hh.1 c).2 main_arg4 (by decide : main_arg4 ∈ Pipeline.restRefs sig spec0)).trans (V_main_arg4 m c)⟩, hh.2⟩) h

/-- The frame: from tables whose blocks lie inside their arrays, every run ends with the arguments as they were and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of m ρ hO (fun c => (dats m hO 0 c).toRForget forgets0) (A_eq m hO) (run_main_quiescent m ρ hO)

end Cert.KernelIdeal.Gen

end
-- ==== Proof.Frames.lean ====
/-
  The frames of the three programs, from the precondition: the group sizes fill the rows, so every block of the kernel's windows
  lies inside its array.
-/
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Gen.Pre_pre

@[expose] public section

set_option maxRecDepth 16384

noncomputable section

namespace Cert.Proof

open Idealize.ShloMosaic Idealize.SL.Sem
open Cert.Visits

/-- The sizes a launch memory of `Kernel` holds. -/
abbrev sizesK (m : (ℓ : Loc Cert.Kernel.nD Cert.Kernel.τ Cert.Kernel.sig) → Buf (Elt Bits) ℓ) : ℕ → ℕ :=
  sizes (m (((0 : Dev Cert.Kernel.nD).tc : Thread Cert.Kernel.nD Cert.Kernel.τ).loc Cert.Kernel.main_arg2))

/-- The sizes a launch memory of `KernelIdeal` holds. -/
abbrev sizesI (m : (ℓ : Loc Cert.KernelIdeal.nD Cert.KernelIdeal.τ Cert.KernelIdeal.sig) → Buf (Elt Ideal) ℓ) : ℕ → ℕ :=
  sizes (m (((0 : Dev Cert.KernelIdeal.nD).tc : Thread Cert.KernelIdeal.nD Cert.KernelIdeal.τ).loc Cert.KernelIdeal.main_arg2))

theorem tabsK (m : (ℓ : Loc Cert.Kernel.nD Cert.Kernel.τ Cert.Kernel.sig) → Buf (Elt Bits) ℓ) (h : Cert.Pre_Kernel m) :
    Cert.Kernel.Gen.Tabs (Cert.Kernel.Gen.tbl m) (sizesK m) :=
  Cert.Kernel.Gen.tabs_of m (sizes_sum _ _ _ _ _ (h 0)) (sizes_dec _)

theorem tabsI (m : (ℓ : Loc Cert.KernelIdeal.nD Cert.KernelIdeal.τ Cert.KernelIdeal.sig) → Buf (Elt Ideal) ℓ) (h : Cert.Pre_KernelIdeal m) :
    Cert.KernelIdeal.Gen.Tabs (Cert.KernelIdeal.Gen.tbl m) (sizesI m) :=
  Cert.KernelIdeal.Gen.tabs_of m (sizes_sum _ _ _ _ _ (h 0)) (sizes_dec _)

theorem frameK : Cert.quiescent_Kernel := fun m g h => Cert.Kernel.Gen.frame m g (tabsK m h).ok

theorem frameI : Cert.quiescent_KernelIdeal := fun m g h => Cert.KernelIdeal.Gen.frame m g (tabsI m h).ok

theorem frameR : Cert.quiescent_ReferenceIdeal := fun m g _ => Cert.ReferenceIdeal.Gen.frame m g

theorem frameRpre : Cert.quiescent_ReferenceIdeal_pre_pre := fun m g _ => Cert.ReferenceIdeal.Gen.frame m g

end Cert.Proof

end
-- ==== Proof.Gold.lean ====
/-
  The grouped product as numbers: row `R` of the result is row `R` of the tokens times the matrix of the expert whose group of rows holds
  `R`, scaled by the row's scale and the expert's column scale.
-/
module

public import proofs.«01_k».proof.Proof.Visits
public import Mathlib.Data.EReal.Operations

@[expose] public section

noncomputable section

namespace Cert.Visits

/-- One element of one expert's scaled product. -/
def rowVal (x : Fin 65536 → Fin 768 → EReal) (xs : Fin 65536 → EReal) (w : Fin 128 → Fin 768 → Fin 2048 → EReal)
    (ws : Fin 128 → Fin 2048 → EReal) (e : Fin 128) (R : Fin 65536) (j : Fin 2048) : EReal :=
  ((∑ k : Fin 768, x R k * w e k j) * xs R) * ws e j

/-- The expert of row `R`. -/
def rowOwner (s : ℕ → ℕ) (R : ℕ) : Fin 128 := ⟨owner s R % 128, Nat.mod_lt _ (by omega)⟩

/-- One element of the grouped product. -/
def gold (s : ℕ → ℕ) (x : Fin 65536 → Fin 768 → EReal) (xs : Fin 65536 → EReal) (w : Fin 128 → Fin 768 → Fin 2048 → EReal)
    (ws : Fin 128 → Fin 2048 → EReal) (R : Fin 65536) (j : Fin 2048) : EReal :=
  rowVal x xs w ws (rowOwner s R.val) R j

/-- A row of expert `e`'s group. -/
theorem rowOwner_eq {s : ℕ → ℕ} {e : Fin 128} {R : ℕ} (h1 : psum s e.val ≤ R) (h2 : R < psum s (e.val + 1)) : rowOwner s R = e := by
  refine Fin.ext ?_
  show owner s R % 128 = e.val
  rw [owner_eq s e.isLt h1 h2, Nat.mod_eq_of_lt e.isLt]

/-- Row `r` of the block visited at `v`, as a row of the result. -/
def rowOf (s : ℕ → ℕ) (v : ℕ) (r : Fin 256) : Fin 65536 := ⟨(256 * tT s v + r.val) % 65536, Nat.mod_lt _ (by omega)⟩

theorem rowOf_val {s : ℕ → ℕ} (hs : psum s 128 = 65536) (v : ℕ) (r : Fin 256) : (rowOf s v r).val = 256 * tT s v + r.val := by
  have := tT_lt hs v
  have := r.isLt
  exact Nat.mod_eq_of_lt (by omega)

theorem rowOf_congr {s : ℕ → ℕ} {u v : ℕ} (h : tT s u = tT s v) (r : Fin 256) : rowOf s u r = rowOf s v r := by
  unfold rowOf; simp only [h]

/-- A live visit: its group is not empty and its tile meets the group. -/
theorem live_facts {s : ℕ → ℕ} {v : ℕ} (h : v < psum (cnt s) 128) :
    tG s v < 128 ∧ tL s v = psum s (tG s v) ∧ tH s v = psum s (tG s v + 1) ∧ hiE s v = tH s v ∧ tL s v < tH s v
      ∧ 256 * tT s v < tH s v ∧ tL s v < 256 * tT s v + 256 := by
  obtain ⟨e, he, -, hpos, h1, h2, h3, hle, hG, hT, hL, hH, hE⟩ := live_spec h
  have hs : psum s (e + 1) = psum s e + s e := psum_succ s e
  have hf : fst s e = psum s e / 256 := rfl
  have hl : lst s e = (psum s (e + 1) - 1) / 256 := rfl
  rw [hG]
  refine ⟨he, hL, hH, by omega, by omega, ?_, ?_⟩ <;> omega

/-- What the output's buffer holds after visit `v`: the rows up to the end of the visited group, and zero below them. -/
def afterVal (s : ℕ → ℕ) (y : Fin 65536 → Fin 2048 → EReal) (v : ℕ) (r : Fin 256) (j : Fin 2048) : EReal :=
  if 256 * tT s v + r.val < hiE s v then y (rowOf s v r) j else 0

theorem afterVal_congr {s : ℕ → ℕ} (y : Fin 65536 → Fin 2048 → EReal) {u v : ℕ} (h1 : tT s u = tT s v) (h2 : hiE s u = hiE s v)
    (r : Fin 256) (j : Fin 2048) : afterVal s y u r j = afterVal s y v r j := by
  unfold afterVal
  rw [h1, h2, rowOf_congr h1]

end Cert.Visits

end
-- ==== Proof.KernelIdealSteps.lean ====
/-
  When the output's block of `KernelIdeal` is written back, which visits store nothing, and when the output's buffer holds nothing the
  body stored.
-/
module

public import proofs.«01_k».proof.Proof.KernelIdealWords
public import proofs.«01_k».proof.Proof.Gold
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Visits

variable {F : FTy → Type} [FloatOps F]
/-- The output's index map, at any admissible tables. -/
theorem indexMap4 (a : (pcfg0 (F := F)).Adm) (i : grid0.Coords) : ((cfg0 a).win 4).indexMap i = cc0_transform_4 k0_off1_inb numel1_S1 a.1 i := rfl

/-- When the output's window is idle, at any admissible tables. -/
theorem idle4 (a : (pcfg0 (F := F)).Adm) (i : grid0.Coords) : (cfg0 a).idle 4 i
    = (!(k0_cond1 (a.1.atD 1 (k0_off1 i)) (a.1.atD 2 (k0_off1 i)) (a.1.atD 3 (k0_off1 i)) == 1#1)
      && !(k0_cond2 (a.1.atD 1 (k0_off1 i)) (a.1.atD 2 (k0_off1 i)) (a.1.atD 3 (k0_off1 i)) == 1#1)) := rfl

variable (m : (ℓ : Loc nD τ sig) → Buf (Elt F) ℓ) {s : ℕ → ℕ} (T : Tabs (tbl m) s)
include T in
/-- The grid has one axis: a visit's coordinate is its number. -/
theorem coord_val (t : Fin (cfgM m T.ok).N) : ((cfgM m T.ok).grid.coords t 0).val = t.val := by
  have h : t.val < 383 := t.isLt
  refine (Pipeline.Grid.coords_val t 0 (show _ = 1 from rfl) (show _ = 383 from rfl)).trans ?_
  rw [Nat.div_one, Nat.mod_eq_of_lt h]

include T in
theorem index4 (t : Fin (cfgM m T.ok).N) : ((cfgM m T.ok).win 4).index t = ![tT s t.val, 0] := by
  have h := T.ix_tile ((cfgM m T.ok).grid.coords t)
  rw [coord_val m T t] at h
  exact (indexMap4 (adm m T.ok) _).trans h

include T in
theorem flush_iff (t : Fin (cfgM m T.ok).N) :
    ((cfgM m T.ok).win 4).flush t = true ↔ t.val + 1 = 383 ∨ tT s (t.val + 1) ≠ tT s t.val := by
  have hN : (cfgM m T.ok).grid.N = 383 := rfl
  have hv : t.val < 383 := t.isLt
  unfold Window.flush
  rw [show ((cfgM m T.ok).win 4).isOut = true from rfl, Bool.true_and, Bool.or_eq_true, decide_eq_true_iff, decide_eq_true_iff]
  constructor
  · rintro (h | ⟨h, hne⟩)
    · exact .inl (h.trans hN)
    · refine .inr fun he => hne ?_
      rw [index4 m T, index4 m T]
      exact congrArg (fun q => ![q, 0]) he
  · rintro (h | h)
    · exact .inl (h.trans hN.symm)
    · by_cases h1 : t.val + 1 = 383
      · exact .inl (h1.trans hN.symm)
      · refine .inr ⟨by omega, fun he => h ?_⟩
        rw [index4 m T, index4 m T] at he
        exact congrFun he 0

include T in
theorem flush_false {t : Fin (cfgM m T.ok).N} (h1 : t.val + 1 < 383) (h2 : tT s (t.val + 1) = tT s t.val) :
    ((cfgM m T.ok).win 4).flush t = false := by
  rw [← Bool.not_eq_true, flush_iff m T]
  omega

/-- The word a table read at a visit's offset gives, when the offset is inside. -/
theorem atD_eq (pf : pre0.Contents (Elt F)) (i : grid0.Coords) :
    (pf.atD 1 (k0_off1 i) = (pf 1 : IVec S383 32) (entryAt i) ∧ pf.atD 2 (k0_off1 i) = (pf 2 : IVec S383 32) (entryAt i))
      ∧ pf.atD 3 (k0_off1 i) = (pf 3 : IVec S383 32) (entryAt i) := by
  have h : ∀ a : Fin 1, k0_off1 i a + 1 ≤ S383.size a := fun a => by
    have := k0_off1_inb i a
    match a with | 0 => exact this
  have e : (fun a => ⟨k0_off1 i a, h a⟩ : S383.Idx) = entryAt i := by
    rw [entry_val]
    funext a
    obtain rfl : a = (0 : Fin 1) := Subsingleton.elim _ _
    exact Fin.ext (off_val i)
  refine ⟨⟨(dif_pos h).trans (congrArg (pf 1 : IVec S383 32) e), (dif_pos h).trans (congrArg (pf 2 : IVec S383 32) e)⟩, (dif_pos h).trans (congrArg (pf 3 : IVec S383 32) e)⟩

/-- Which words make a visit store nothing. -/
theorem idle_words {t l h : ℕ} (ht : t < 256) (hl : l ≤ 65536) (hh : h ≤ 65536) {v1 v4 v6 : BitVec 32}
    (e1 : v1 = BitVec.ofNat 32 t) (e4 : v4 = BitVec.ofNat 32 l) (e6 : v6 = BitVec.ofNat 32 h) :
    (!(k0_cond1 v1 v4 v6 == 1#1) && !(k0_cond2 v1 v4 v6 == 1#1)) = true ↔ ¬ (l ≤ t * 256 ∧ t * 256 + 256 ≤ h) ∧ ¬ l < h := by
  rw [e1, e4, e6, Bool.and_eq_true, Bool.not_eq_true', Bool.not_eq_true', beq_eq_false_iff_ne, beq_eq_false_iff_ne, Ne, Ne,
    cond1_iff ht hl hh, cond2_iff ht hl hh]
  omega

/-- A visit whose group is empty stores nothing. -/
theorem idle_at (a : (pcfg0 (F := F)).Adm) {s : ℕ → ℕ} (T : Tabs a.1 s) (i : grid0.Coords) : (cfg0 a).idle 4 i = true ↔
    ¬ (tL s (i 0).val ≤ tT s (i 0).val * 256 ∧ tT s (i 0).val * 256 + 256 ≤ tH s (i 0).val) ∧ ¬ tL s (i 0).val < tH s (i 0).val := by
  have ha := atD_eq a.1 i
  rw [T.at1, T.at2, T.at3] at ha
  rw [idle4]
  exact idle_words (tT_lt T.sum _) (tL_le T.sum _) (tH_le T.sum _) ha.1.1 ha.1.2 ha.2

include T in
/-- A visit stores nothing exactly when it is past the last stretch. -/
theorem idle_iff (t : Fin (cfgM m T.ok).N) :
    (cfgM m T.ok).idle 4 ((cfgM m T.ok).grid.coords t) = true ↔ psum (cnt s) 128 ≤ t.val := by
  have hi := coord_val m T t
  have hw := idle_at (adm m T.ok) T ((cfgM m T.ok).grid.coords t)
  rw [hi] at hw
  refine hw.trans ?_
  by_cases hd : psum (cnt s) 128 ≤ t.val
  · obtain ⟨-, -, h1, h2, -⟩ := dead_spec hd
    omega
  · obtain ⟨-, -, -, -, hlt, -⟩ := live_facts (s := s) (by omega : t.val < psum (cnt s) 128)
    omega

include T in
theorem idle_false {t : Fin (cfgM m T.ok).N} (h : t.val < psum (cnt s) 128) :
    (cfgM m T.ok).idle 4 ((cfgM m T.ok).grid.coords t) = false := by
  rw [← Bool.not_eq_true, idle_iff m T]; omega

include T in
/-- Past the last stretch the output's buffer holds what the body stored. -/
theorem fresh_dead : ∀ v, v < 383 → psum (cnt s) 128 ≤ v → (cfgM m T.ok).fresh 4 v = false
  | 0, _, hd => by
    obtain ⟨u, hu, -⟩ := prev_dead T.sum hd
    omega
  | v + 1, hv, hd => by
    obtain ⟨u, hu, hT, -⟩ := prev_dead T.sum hd
    obtain rfl : v = u := by omega
    have hT' : tT s (v + 1) = 255 := (dead_spec hd).2.1
    have hN : v < (cfgM m T.ok).N := (by omega : v < 383)
    rw [(cfgM m T.ok).fresh_succ 4 v hN, flush_false m T (t := ⟨v, hN⟩) hv (hT'.trans hT.symm), Bool.false_or]
    by_cases hc : psum (cnt s) 128 ≤ v
    · rw [fresh_dead v (by omega) hc, Bool.and_false]
    · rw [idle_false m T (t := ⟨v, hN⟩) (by show v < _; omega), Bool.false_and]

include T in
/-- A visit whose group starts inside the block finds what the visit before stored. -/
theorem fresh_inside {u : ℕ} (hv : u + 1 < 383) (hT : tT s u = tT s (u + 1)) (hu : u < psum (cnt s) 128) : (cfgM m T.ok).fresh 4 (u + 1) = false := by
  have hN : u < (cfgM m T.ok).N := (by omega : u < 383)
  rw [(cfgM m T.ok).fresh_succ 4 u hN, flush_false m T (t := ⟨u, hN⟩) hv hT.symm, Bool.false_or, idle_false m T (t := ⟨u, hN⟩) hu, Bool.false_and]

end Cert.KernelIdeal.Gen

end
-- ==== Proof.KernelIdealRead.lean ====
/-
  What the staged blocks of `KernelIdeal` hold at one element: rows of the tokens and their scales, the visited expert's matrix and its
  column scales.
-/
module

public import proofs.«01_k».proof.Proof.KernelIdealSteps
public import Idealize.ShloMosaic.Lib.Pipeline.ValueKit.Geometry
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Visits

variable {F : FTy → Type} [FloatOps F]

/-! ## Blocks, at any admissible tables and any array -/

section
variable (a : (pcfg0 (F := F)).Adm) (t : Fin (cfg0 a).N)

theorem read_x (X : Vec F S65536x768 .fp8e4m3) {q : ℕ} (hq : ((cfg0 a).win 0).index t = ![q, 0]) (r : Fin 256) (k : Fin 768) (R : Fin 65536) (hR : R.val = 256 * q + r.val) :
    (((cfg0 a).win 0).blk t).view.read (Elt F) X (ValueIdx.ix2 r k) = X (ValueIdx.ix2 R k) := by
  refine (View.read_apply _ _).trans ((cast_eq _ _).trans (congrArg X ?_))
  funext (b : Fin 2)
  refine Fin.ext ?_
  refine (((cfg0 a).win 0).rect_emb_val t _ b).trans ?_
  rw [hq]
  match b with
  | 0 => show q * 256 + r.val = R.val; omega
  | 1 => show 0 * 768 + k.val = k.val; omega

theorem read_xs (X : Vec F S65536x1 .f32) {q : ℕ} (hq : ((cfg0 a).win 1).index t = ![q, 0]) (r : Fin 256) (R : Fin 65536) (hR : R.val = 256 * q + r.val) :
    (((cfg0 a).win 1).blk t).view.read (Elt F) X (ValueIdx.ix2 r 0) = X (ValueIdx.ix2 R 0) := by
  refine (View.read_apply _ _).trans ((cast_eq _ _).trans (congrArg X ?_))
  funext (b : Fin 2)
  refine Fin.ext ?_
  refine (((cfg0 a).win 1).rect_emb_val t _ b).trans ?_
  rw [hq]
  match b with
  | 0 => show q * 256 + r.val = R.val; omega
  | 1 => rfl

theorem read_w (X : Vec F S128x768x2048 .fp8e4m3) {e : Fin 128} (hq : ((cfg0 a).win 2).index t = ![e.val, 0, 0]) (k : Fin 768) (j : Fin 2048) :
    (((cfg0 a).win 2).blk t).view.read (Elt F) X (ValueIdx.ix3 0 k j) = X (ValueIdx.ix3 e k j) := by
  refine (View.read_apply _ _).trans ((cast_eq _ _).trans (congrArg X ?_))
  funext (b : Fin 3)
  refine Fin.ext ?_
  refine (((cfg0 a).win 2).rect_emb_val t _ b).trans ?_
  rw [hq]
  match b with
  | 0 => show e.val * 1 + 0 = e.val; omega
  | 1 => show 0 * 768 + k.val = k.val; omega
  | 2 => show 0 * 2048 + j.val = j.val; omega

theorem read_ws (X : Vec F S128x1x2048 .f32) {e : Fin 128} (hq : ((cfg0 a).win 3).index t = ![e.val, 0, 0]) (j : Fin 2048) :
    (((cfg0 a).win 3).blk t).view.read (Elt F) X (ValueIdx.ix3 0 0 j) = X (ValueIdx.ix3 e 0 j) := by
  refine (View.read_apply _ _).trans ((cast_eq _ _).trans (congrArg X ?_))
  funext (b : Fin 3)
  refine Fin.ext ?_
  refine (((cfg0 a).win 3).rect_emb_val t _ b).trans ?_
  rw [hq]
  match b with
  | 0 => show e.val * 1 + 0 = e.val; omega
  | 1 => rfl
  | 2 => show 0 * 2048 + j.val = j.val; omega

/-- An element of the output's block, in the output. -/
theorem emb_out {q : ℕ} (hq : ((cfg0 a).win 4).index t = ![q, 0]) (r : Fin 256) (j : Fin 2048) (R : Fin 65536) (hR : R.val = 256 * q + r.val) :
    ((((cfg0 a).win 4).blk t).view.emb (ValueIdx.ix2 r j) : S65536x2048.Idx) = ValueIdx.ix2 R j := by
  funext (b : Fin 2)
  refine Fin.ext ?_
  refine (((cfg0 a).win 4).rect_emb_val t _ b).trans ?_
  rw [hq]
  match b with
  | 0 => show q * 256 + r.val = R.val; omega
  | 1 => show 0 * 2048 + j.val = j.val; omega

theorem indexMap0 (i : grid0.Coords) : ((cfg0 a).win 0).indexMap i = cc0_transform_0 k0_off1_inb numel1_S1 a.1 i := rfl
theorem indexMap1 (i : grid0.Coords) : ((cfg0 a).win 1).indexMap i = cc0_transform_1 k0_off1_inb numel1_S1 a.1 i := rfl
theorem indexMap2 (i : grid0.Coords) : ((cfg0 a).win 2).indexMap i = cc0_transform_2 k0_off1_inb numel1_S1 a.1 i := rfl
theorem indexMap3 (i : grid0.Coords) : ((cfg0 a).win 3).indexMap i = cc0_transform_3 k0_off1_inb numel1_S1 a.1 i := rfl

end

variable (m : (ℓ : Loc nD τ sig) → Buf (Elt F) ℓ) {s : ℕ → ℕ} (T : Tabs (tbl m) s)

include T in
theorem index0 (t : Fin (cfgM m T.ok).N) : ((cfgM m T.ok).win 0).index t = ![tT s t.val, 0] := by
  have h := T.ix_x ((cfgM m T.ok).grid.coords t)
  rw [coord_val m T t] at h
  exact (indexMap0 (adm m T.ok) _).trans h
include T in
theorem index1 (t : Fin (cfgM m T.ok).N) : ((cfgM m T.ok).win 1).index t = ![tT s t.val, 0] := by
  have h := T.ix_xs ((cfgM m T.ok).grid.coords t)
  rw [coord_val m T t] at h
  exact (indexMap1 (adm m T.ok) _).trans h
include T in
theorem index2 (t : Fin (cfgM m T.ok).N) : ((cfgM m T.ok).win 2).index t = ![tG s t.val, 0, 0] := by
  have h := T.ix_w ((cfgM m T.ok).grid.coords t)
  rw [coord_val m T t] at h
  exact (indexMap2 (adm m T.ok) _).trans h
include T in
theorem index3 (t : Fin (cfgM m T.ok).N) : ((cfgM m T.ok).win 3).index t = ![tG s t.val, 0, 0] := by
  have h := T.ix_ws ((cfgM m T.ok).grid.coords t)
  rw [coord_val m T t] at h
  exact (indexMap3 (adm m T.ok) _).trans h

/-! ## The column scales at the grid call -/

theorem scales_last (W : Valuation τ sig (Elt F)) (e : Fin 128) (j : Fin 2048) :
    (StableHlo.after hostOps0_19 W main_v56 : Vec F S128x1x2048 .f32) (ValueIdx.ix3 e 0 j)
      = (StableHlo.after hostOps0_19 W main_arg4 : Vec F S128x2048 .f32) (ValueIdx.ix2 e j) := by
  after_reads_simp
  pointwise
  rfl

theorem V_scales (c : Dev nD) (e : Fin 128) (j : Fin 2048) :
    (V m c main_v56 : Vec F S128x1x2048 .f32) (ValueIdx.ix3 e 0 j)
      = (m ((c : Thread nD τ).loc main_arg4) : Vec F S128x2048 .f32) (ValueIdx.ix2 e j) := by
  rw [← V_main_arg4 m c]
  unfold V
  rw [after_hostLines]
  exact scales_last _ e j

end Cert.KernelIdeal.Gen

end
-- ==== Proof.KernelIdealBlock.lean ====
/-
  One visit of `KernelIdeal` read at one element over the extended reals: the scaled product of a row of the staged block with the staged
  expert's matrix, stored over the whole block, or under the row masks, or not at all.
-/
module

public import proofs.«01_k».proof.Proof.KernelIdealWords
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Cert.Visits

/-- One element of the staged blocks' scaled product. -/
def blkVal (x : Vec Ideal S256x768 .fp8e4m3) (xs : Vec Ideal S256x1 .f32) (w : Vec Ideal S1x768x2048 .fp8e4m3)
    (ws : Vec Ideal S1x1x2048 .f32) (r : Fin 256) (j : Fin 2048) : EReal :=
  ((∑ k : Fin 768, (x (ValueIdx.ix2 r k) : EReal) * w (ValueIdx.ix3 0 k j)) * xs (ValueIdx.ix2 r 0)) * ws (ValueIdx.ix3 0 0 j)

/-- The whole-block result at row `r`, column `j`. -/
theorem pay1_at (x : Vec Ideal S256x768 .fp8e4m3) (xs : Vec Ideal S256x1 .f32) (w : Vec Ideal S1x768x2048 .fp8e4m3)
    (ws : Vec Ideal S1x1x2048 .f32) (r : Fin 256) (j : Fin 2048) :
    k0_pay1 x w xs ws (ValueIdx.ix2 r j) = blkVal x xs w ws r j := by
  pointwise [k0_pay1]
  rfl

/-- The masked result at row `r`, column `j`. -/
theorem pay2_at (v1 v4 v6 : BitVec 32) (o : Vec Ideal S256x2048 .bf16) (x : Vec Ideal S256x768 .fp8e4m3) (xs : Vec Ideal S256x1 .f32)
    (w : Vec Ideal S1x768x2048 .fp8e4m3) (ws : Vec Ideal S1x1x2048 .f32) (r : Fin 256) (j : Fin 2048) :
    k0_pay2 v1 v4 v6 o x w xs ws (ValueIdx.ix2 r j)
      = Scalar.select
          (IntOp.andi (IntOp.cmpi .sge (IntOp.addi (Scalar.muli v1 256#32) (BitVec.ofNat 32 r.val)) v4)
            (IntOp.cmpi .slt (IntOp.addi (Scalar.muli v1 256#32) (BitVec.ofNat 32 r.val)) v6))
          (blkVal x xs w ws r j)
          (Scalar.select (IntOp.cmpi .slt (IntOp.addi (Scalar.muli v1 256#32) (BitVec.ofNat 32 r.val)) v4)
            (o (ValueIdx.ix2 r j)) 0) := by
  pointwise [k0_pay2]
  rfl

/-- One visit's words small: what it leaves at row `r`, column `j`. -/
theorem bodyVal_at {t l h : ℕ} (ht : t < 256) (hl : l ≤ 65536) (hh : h ≤ 65536) (d : Vec Ideal S256x2048 .bf16)
    (x : Vec Ideal S256x768 .fp8e4m3) (xs : Vec Ideal S256x1 .f32)
    (w : Vec Ideal S1x768x2048 .fp8e4m3) (ws : Vec Ideal S1x1x2048 .f32) (r : Fin 256) (j : Fin 2048) :
    bodyVal (BitVec.ofNat 32 t) (BitVec.ofNat 32 l) (BitVec.ofNat 32 h) d x xs w ws (ValueIdx.ix2 r j)
      = if l ≤ t * 256 ∧ t * 256 + 256 ≤ h then blkVal x xs w ws r j
        else if l < h then
          if l ≤ t * 256 + r.val ∧ t * 256 + r.val < h then blkVal x xs w ws r j
          else if t * 256 + r.val < l then d (ValueIdx.ix2 r j) else (0 : EReal)
        else d (ValueIdx.ix2 r j) := by
  have hr := r.isLt
  have e1 : IntOp.addi (Scalar.muli (BitVec.ofNat 32 t) 256#32) (BitVec.ofNat 32 r.val) = BitVec.ofNat 32 (t * 256 + r.val) := by
    rw [BitVec.ofNat_add, BitVec.ofNat_mul]; rfl
  unfold bodyVal
  by_cases c1 : l ≤ t * 256 ∧ t * 256 + 256 ≤ h
  · have n1 := (cond1_iff ht hl hh).mpr c1
    have n2 : ¬ _ := fun hc => ((cond2_iff ht hl hh).mp hc).1 c1
    rw [if_neg n2, if_pos n1, if_pos c1, pay1_at]
  · have n1 : ¬ _ := fun hc => c1 ((cond1_iff ht hl hh).mp hc)
    rw [if_neg n1, if_neg c1]
    by_cases c2 : l < h
    · have n2 := (cond2_iff ht hl hh).mpr ⟨c1, c2⟩
      rw [if_pos n2, if_pos c2, pay2_at, e1, WordCmp.cmpi_sge_ofNat (by omega) (by omega), WordCmp.cmpi_slt_ofNat (by omega) (by omega),
        WordCmp.cmpi_slt_ofNat (by omega) (by omega)]
      by_cases a1 : l ≤ t * 256 + r.val
      · have a3 : ¬ t * 256 + r.val < l := by omega
        by_cases a2 : t * 256 + r.val < h <;> simp [a1, a2, a3, IntOp.andi, Scalar.select]
      · have a3 : t * 256 + r.val < l := by omega
        have a2 : t * 256 + r.val < h := by omega
        simp [a1, a2, a3, IntOp.andi, Scalar.select]
    · have n2 : ¬ _ := fun hc => c2 ((cond2_iff ht hl hh).mp hc).2
      rw [if_neg n2, if_neg c2]

end Cert.KernelIdeal.Gen

end
-- ==== Proof.KernelIdealValue.lean ====
/-
  What the output's buffer of `KernelIdeal` holds after each visit, over the extended reals: the rows of the grouped product up to the end
  of the visited group, and zero below them. One visit's result from the one before it.
-/
module

public import proofs.«01_k».proof.Proof.KernelIdealRead
public import proofs.«01_k».proof.Proof.KernelIdealBlock

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Visits

variable (m : (ℓ : Loc nD τ sig) → Buf (Elt Ideal) ℓ) {s : ℕ → ℕ} (T : Tabs (tbl m) s) (c : Dev nD)

/-! ## The arguments as numbers -/

def argX (R : Fin 65536) (k : Fin 768) : EReal := (m ((c : Thread nD τ).loc main_arg0) : Vec Ideal S65536x768 .fp8e4m3) (ValueIdx.ix2 R k)
def argXs (R : Fin 65536) : EReal := (m ((c : Thread nD τ).loc main_arg1) : Vec Ideal S65536x1 .f32) (ValueIdx.ix2 R 0)
def argW (e : Fin 128) (k : Fin 768) (j : Fin 2048) : EReal := (m ((c : Thread nD τ).loc main_arg3) : Vec Ideal S128x768x2048 .fp8e4m3) (ValueIdx.ix3 e k j)
def argWs (e : Fin 128) (j : Fin 2048) : EReal := (m ((c : Thread nD τ).loc main_arg4) : Vec Ideal S128x2048 .f32) (ValueIdx.ix2 e j)

/-- The grouped product of the arguments. -/
def goldOf (s : ℕ → ℕ) (R : Fin 65536) (j : Fin 2048) : EReal := gold s (argX m c) (argXs m c) (argW m c) (argWs m c) R j

/-- What the output's buffer holds after visit `v`. -/
def outVal (s : ℕ → ℕ) (v : ℕ) : Vec Ideal S256x2048 .bf16 := fun i => afterVal s (goldOf m c s) v (i 0) (i 1)

include T in
/-- The staged blocks' product at one element: a row of the arguments' product, by the visited expert. -/
theorem blkVal_iblk (t : Fin (cfgM m T.ok).N) (r : Fin 256) (j : Fin 2048) :
    blkVal (iblk m T.ok c 0 t) (iblk m T.ok c 1 t) (iblk m T.ok c 2 t) (iblk m T.ok c 3 t) r j
      = rowVal (argX m c) (argXs m c) (argW m c) (argWs m c) ⟨tG s t.val, tG_lt T.sum t.val⟩ (rowOf s t.val r) j := by
  have hR : (rowOf s t.val r).val = 256 * tT s t.val + r.val := rowOf_val T.sum _ _
  have e0 : ∀ k : Fin 768, (iblk m T.ok c 0 t : Vec Ideal S256x768 .fp8e4m3) (ValueIdx.ix2 r k) = argX m c (rowOf s t.val r) k := fun k =>
    (read_x (adm m T.ok) t (V m c main_arg0) (index0 m T t) r k _ hR).trans (congrFun (V_main_arg0 m c) _)
  have e1 : (iblk m T.ok c 1 t : Vec Ideal S256x1 .f32) (ValueIdx.ix2 r 0) = argXs m c (rowOf s t.val r) :=
    (read_xs (adm m T.ok) t (V m c main_arg1) (index1 m T t) r _ hR).trans (congrFun (V_main_arg1 m c) _)
  have e2 : ∀ k : Fin 768, (iblk m T.ok c 2 t : Vec Ideal S1x768x2048 .fp8e4m3) (ValueIdx.ix3 0 k j) = argW m c ⟨tG s t.val, tG_lt T.sum t.val⟩ k j := fun k =>
    (read_w (adm m T.ok) t (V m c main_arg3) (e := ⟨tG s t.val, tG_lt T.sum t.val⟩) (index2 m T t) k j).trans (congrFun (V_main_arg3 m c) _)
  have e3 : (iblk m T.ok c 3 t : Vec Ideal S1x1x2048 .f32) (ValueIdx.ix3 0 0 j) = argWs m c ⟨tG s t.val, tG_lt T.sum t.val⟩ j :=
    (read_ws (adm m T.ok) t (V m c main_v56) (e := ⟨tG s t.val, tG_lt T.sum t.val⟩) (index3 m T t) j).trans (V_scales m c _ _)
  unfold blkVal rowVal
  simp only [e0, e1, e2, e3]

/-- A visit in the middle of a stretch, from what the visit found: `d` is read only above the visited group's first row. -/
theorem live_step {v : ℕ} (hs : psum s 128 = 65536) (hv : v < psum (cnt s) 128)
    (x : Vec Ideal S256x768 .fp8e4m3) (xs : Vec Ideal S256x1 .f32) (w : Vec Ideal S1x768x2048 .fp8e4m3) (ws : Vec Ideal S1x1x2048 .f32)
    (hb : ∀ r j, blkVal x xs w ws r j = rowVal (argX m c) (argXs m c) (argW m c) (argWs m c) ⟨tG s v, tG_lt hs v⟩ (rowOf s v r) j)
    (d : Vec Ideal S256x2048 .bf16)
    (hd : 256 * tT s v < tL s v → ∃ u, tT s u = tT s v ∧ hiE s u = tL s v ∧ d = outVal m c s u) :
    bodyVal (BitVec.ofNat 32 (tT s v)) (BitVec.ofNat 32 (tL s v)) (BitVec.ofNat 32 (tH s v)) d x xs w ws = outVal m c s v := by
  obtain ⟨hG, hL, hH, hE, hlt, hin1, hin2⟩ := live_facts hv
  have key : ∀ (r : Fin 256) (j : Fin 2048), tL s v ≤ 256 * tT s v + r.val → 256 * tT s v + r.val < tH s v →
      rowVal (argX m c) (argXs m c) (argW m c) (argWs m c) ⟨tG s v, tG_lt hs v⟩ (rowOf s v r) j = goldOf m c s (rowOf s v r) j := fun r j h1 h2 => by
    unfold goldOf gold
    rw [rowOwner_eq (e := ⟨tG s v, tG_lt hs v⟩) (by rw [rowOf_val hs]; show psum s (tG s v) ≤ _; omega) (by rw [rowOf_val hs]; show _ < psum s (tG s v + 1); omega)]
  funext i
  obtain ⟨r, j, rfl⟩ : ∃ (r : Fin 256) (j : Fin 2048), i = ValueIdx.ix2 r j := ⟨i 0, i 1, by funext a; match a with | 0 => rfl | 1 => rfl⟩
  have hr := r.isLt
  rw [bodyVal_at (tT_lt hs v) (tL_le hs v) (tH_le hs v), hb]
  show _ = afterVal s (goldOf m c s) v r j
  unfold afterVal
  rw [hE]
  by_cases c1 : tL s v ≤ tT s v * 256 ∧ tT s v * 256 + 256 ≤ tH s v
  · rw [if_pos c1, if_pos (by omega), key r j (by omega) (by omega)]
  · rw [if_neg c1, if_pos hlt]
    by_cases c2 : tL s v ≤ tT s v * 256 + r.val ∧ tT s v * 256 + r.val < tH s v
    · rw [if_pos c2, if_pos (by omega), key r j (by omega) (by omega)]
    · rw [if_neg c2]
      by_cases c3 : tT s v * 256 + r.val < tL s v
      · rw [if_pos c3, if_pos (by omega)]
        obtain ⟨u, hT, hu, rfl⟩ := hd (by omega)
        show afterVal s (goldOf m c s) u r j = _
        unfold afterVal
        rw [hT, hu, if_pos (by omega), rowOf_congr hT]
      · rw [if_neg c3, if_neg (by omega)]

/-- A visit past the last stretch leaves what it found. -/
theorem dead_step {v : ℕ} (hs : psum s 128 = 65536) (hv : psum (cnt s) 128 ≤ v)
    (x : Vec Ideal S256x768 .fp8e4m3) (xs : Vec Ideal S256x1 .f32) (w : Vec Ideal S1x768x2048 .fp8e4m3) (ws : Vec Ideal S1x1x2048 .f32)
    (d : Vec Ideal S256x2048 .bf16) :
    bodyVal (BitVec.ofNat 32 (tT s v)) (BitVec.ofNat 32 (tL s v)) (BitVec.ofNat 32 (tH s v)) d x xs w ws = d := by
  obtain ⟨-, hT, hL, hH, -⟩ := dead_spec hv
  funext i
  obtain ⟨r, j, rfl⟩ : ∃ (r : Fin 256) (j : Fin 2048), i = ValueIdx.ix2 r j := ⟨i 0, i 1, by funext a; match a with | 0 => rfl | 1 => rfl⟩
  rw [bodyVal_at (tT_lt hs v) (tL_le hs v) (tH_le hs v), if_neg (by omega), if_neg (by omega)]

/-- Two visits to one tile with the rows filled to one place hold the same. -/
theorem outVal_congr {u v : ℕ} (h1 : tT s u = tT s v) (h2 : hiE s u = hiE s v) : outVal m c s u = outVal m c s v := by
  funext i
  exact afterVal_congr (goldOf m c s) h1 h2 (i 0) (i 1)

end Cert.KernelIdeal.Gen

end
-- ==== Proof.KernelIdealRun.lean ====
/-
  The value of `KernelIdeal`'s run: the output's buffer carried from visit to visit, and the output at the end.
-/
module

public import proofs.«01_k».proof.Proof.KernelIdealValue
public import Idealize.ShloMosaic.Lib.Claim

@[expose] public section

set_option maxRecDepth 16384

noncomputable section

namespace Cert.KernelIdeal.Gen.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Visits

local notation "𝕄" => MT nD τ sig Unit (Elt Ideal) ℕ (UR sig nD τ) ℕ

variable (m : (ℓ : Loc nD τ sig) → Buf (Elt Ideal) ℓ) (ρ : Dev nD → PrngReg) {s : ℕ → ℕ} (T : Tabs (tbl m) s)

/-- The proof data: each input's buffer at its block, the output's at `outVal`. -/
def dats (_ : Fin 1) (c : Dev nD) : Dat τ (Elt Ideal) Unit ℕ (UR sig nD τ) ℕ (cfgM m T.ok) c where
  A w := V m c (Pipeline.arrRef spec0 w)
  after w t := match w with
    | ⟨0, _⟩ => iblk m T.ok c 0 t
    | ⟨1, _⟩ => iblk m T.ok c 1 t
    | ⟨2, _⟩ => iblk m T.ok c 2 t
    | ⟨3, _⟩ => iblk m T.ok c 3 t
    | ⟨4, _⟩ => outVal m c s t.val
  Φ _ := iprop(Pipeline.ΦA spec0 c ∗ Pipeline.ΦT pre0 (tbl m) c)
  q _ := fullShare
  owed _ := 0

theorem A_eq (c : Dev nD) (w : Fin (cfgM m T.ok).W) : (dats m T 0 c).A w = V m c (Pipeline.arrRef spec0 w) := by
  dsimp only [dats]

theorem after0_0 (c : Dev nD) (t : Fin (cfgM m T.ok).N) : (dats m T 0 c).after 0 t = iblk m T.ok c 0 t := by dsimp only [dats]; try rfl
theorem after0_1 (c : Dev nD) (t : Fin (cfgM m T.ok).N) : (dats m T 0 c).after 1 t = iblk m T.ok c 1 t := by dsimp only [dats]; try rfl
theorem after0_2 (c : Dev nD) (t : Fin (cfgM m T.ok).N) : (dats m T 0 c).after 2 t = iblk m T.ok c 2 t := by dsimp only [dats]; try rfl
theorem after0_3 (c : Dev nD) (t : Fin (cfgM m T.ok).N) : (dats m T 0 c).after 3 t = iblk m T.ok c 3 t := by dsimp only [dats]; try rfl
theorem after0_4 (c : Dev nD) (t : Fin (cfgM m T.ok).N) : (dats m T 0 c).after 4 t = outVal m c s t.val := by dsimp only [dats]; try rfl

theorem before0_0 (c : Dev nD) (t : Fin (cfgM m T.ok).N) (d) : (dats m T 0 c).before 0 t d = iblk m T.ok c 0 t :=
  before0_0_of m T.ok (dats m T 0 c) (A_eq m T c 0) (after0_0 m T c) t d
theorem before0_1 (c : Dev nD) (t : Fin (cfgM m T.ok).N) (d) : (dats m T 0 c).before 1 t d = iblk m T.ok c 1 t :=
  before0_1_of m T.ok (dats m T 0 c) (A_eq m T c 1) (after0_1 m T c) t d
theorem before0_2 (c : Dev nD) (t : Fin (cfgM m T.ok).N) (d) : (dats m T 0 c).before 2 t d = iblk m T.ok c 2 t :=
  before0_2_of m T.ok (dats m T 0 c) (A_eq m T c 2) (after0_2 m T c) t d
theorem before0_3 (c : Dev nD) (t : Fin (cfgM m T.ok).N) (d) : (dats m T 0 c).before 3 t d = iblk m T.ok c 3 t :=
  before0_3_of m T.ok (dats m T 0 c) (A_eq m T c 3) (after0_3 m T c) t d

/-- What a visit finds in the output's buffer when something was stored there: what the visit before left. -/
theorem before0_4 (c : Dev nD) (t : Fin (cfgM m T.ok).N) (d) (hf : (cfgM m T.ok).fresh 4 t.val = false) :
    (dats m T 0 c).before 4 t d = outVal m c s (t.val - 1) := by
  refine ((dats m T 0 c).before_out_traj 4 rfl (fun _ _ => rfl) (fun t h0 hi hf => ?_) t.val t rfl d).trans
    ((if_neg (by rw [hf]; exact Bool.false_ne_true)).trans (after0_4 m T c _))
  rw [after0_4, after0_4]
  have hd := (idle_iff m T t).mp hi
  obtain ⟨u, hu, hT, hE⟩ := prev_dead T.sum hd
  obtain ⟨-, hT', -, -, hE'⟩ := dead_spec hd
  show outVal m c s t.val = outVal m c s (t.val - 1)
  rw [show t.val - 1 = u from by omega]
  exact outVal_congr m c (hT'.trans hT.symm) (hE'.trans hE.symm)

/-- One visit: what the body leaves from what it finds. -/
theorem step (c : Dev nD) (t : Fin (cfgM m T.ok).N) (d) :
    bodyVal (BitVec.ofNat 32 (tT s t.val)) (BitVec.ofNat 32 (tL s t.val)) (BitVec.ofNat 32 (tH s t.val)) ((dats m T 0 c).before 4 t d)
      (iblk m T.ok c 0 t) (iblk m T.ok c 1 t) (iblk m T.ok c 2 t) (iblk m T.ok c 3 t) = outVal m c s t.val := by
  have hv : t.val < 383 := t.isLt
  by_cases hd : psum (cnt s) 128 ≤ t.val
  · refine (dead_step T.sum hd _ _ _ _ _).trans ((before0_4 m T c t d (fresh_dead m T t.val hv hd)).trans ?_)
    obtain ⟨u, hu, hT, hE⟩ := prev_dead T.sum hd
    obtain ⟨-, hT', -, -, hE'⟩ := dead_spec hd
    rw [show t.val - 1 = u from by omega]
    exact outVal_congr m c (hT.trans hT'.symm) (hE.trans hE'.symm)
  · have hl : t.val < psum (cnt s) 128 := by omega
    refine live_step m c T.sum hl _ _ _ _ (blkVal_iblk m T c t) _ fun hin => ?_
    obtain ⟨u, hu, hT, hE, hul⟩ := prev_same T.sum hl hin
    refine ⟨u, hT, hE, ?_⟩
    refine (before0_4 m T c t d ?_).trans (congrArg (outVal m c s) (by omega))
    rw [hu]
    exact fresh_inside m T (by omega) (by rw [← hu]; exact hT) hul

/-! ## The body obligation -/

def bodyPre (c : Dev nD) (t : Fin (cfgM m T.ok).N) : sProp 𝕄 :=
  iprop((dats m T 0 c).Φ t.castSucc ∗ (dats m T 0 c).owesAt () t.castSucc
    ∗ (∃ d, owns (c : Thread nD τ) (ms0_0 m T.ok t) fullShare ((dats m T 0 c).before 0 t d))
    ∗ (∃ d, owns (c : Thread nD τ) (ms0_1 m T.ok t) fullShare ((dats m T 0 c).before 1 t d))
    ∗ (∃ d, owns (c : Thread nD τ) (ms0_2 m T.ok t) fullShare ((dats m T 0 c).before 2 t d))
    ∗ (∃ d, owns (c : Thread nD τ) (ms0_3 m T.ok t) fullShare ((dats m T 0 c).before 3 t d))
    ∗ (∃ d, owns (c : Thread nD τ) (ms0_4 m T.ok t) fullShare ((dats m T 0 c).before 4 t d)))

def bodyPost (c : Dev nD) (t : Fin (cfgM m T.ok).N) : sProp 𝕄 :=
  iprop((dats m T 0 c).Φ t.succ ∗ (dats m T 0 c).owesAt () t.succ
    ∗ owns (c : Thread nD τ) (ms0_0 m T.ok t) fullShare ((dats m T 0 c).after 0 t)
    ∗ owns (c : Thread nD τ) (ms0_1 m T.ok t) fullShare ((dats m T 0 c).after 1 t)
    ∗ owns (c : Thread nD τ) (ms0_2 m T.ok t) fullShare ((dats m T 0 c).after 2 t)
    ∗ owns (c : Thread nD τ) (ms0_3 m T.ok t) fullShare ((dats m T 0 c).after 3 t)
    ∗ (dats m T 0 c).leavesExact 4 t)

/-- The words a visit reads. -/
theorem words (t : Fin (cfgM m T.ok).N) :
    ((tbl m 1 : IVec S383 32) (entryAt (grid0.coords t)) = BitVec.ofNat 32 (tT s t.val)
      ∧ (tbl m 2 : IVec S383 32) (entryAt (grid0.coords t)) = BitVec.ofNat 32 (tL s t.val))
      ∧ (tbl m 3 : IVec S383 32) (entryAt (grid0.coords t)) = BitVec.ofNat 32 (tH s t.val) := by
  have hi : (grid0.coords t 0).val = t.val := coord_val m T t
  have h1 := T.at1 (grid0.coords t)
  have h2 := T.at2 (grid0.coords t)
  have h3 := T.at3 (grid0.coords t)
  rw [hi] at h1 h2 h3
  exact ⟨⟨h1, h2⟩, h3⟩

/-- The output's buffer at `outVal` is what the obligation asks of it, stored or not. -/
theorem leaves4 (c : Dev nD) (t : Fin (cfgM m T.ok).N) (d) (X : Vec Ideal S256x2048 .bf16) (hX : X = outVal m c s t.val)
    (hI : psum (cnt s) 128 ≤ t.val → X = (dats m T 0 c).before 4 t d) :
    owns (c : Thread nD τ) (ms0_4 m T.ok t) fullShare X ⊢ (dats m T 0 c).leavesExact 4 t := by
  unfold Dat.leavesExact
  cases hi : (cfgM m T.ok).idle 4 ((cfgM m T.ok).grid.coords t)
  · dsimp only
    rw [after0_4, ← hX]
    exact .rfl
  · dsimp only
    cases hf : ((cfgM m T.ok).win 4).flush t
    · dsimp only
      rw [hI ((idle_iff m T t).mp hi)]
      iintro H
      iexists d
      iexact H
    · dsimp only
      rw [after0_4, ← hX]
      exact .rfl

theorem sound_body (c : Dev nD) (t : Fin (cfgM m T.ok).N) :
    bodyPre m T c t ⊢ wp frame (wpE (defs₀ (F := Ideal)) Variants.none c none) Set.univ (bodyAt0 (adm m T.ok) t) (fun _ => bodyPost m T c t) := by
  unfold bodyPre bodyPost bodyAt0
  simp only [before0_0, before0_1, before0_2, before0_3]
  rw [show (dats m T 0 c).Φ t.succ = (dats m T 0 c).Φ t.castSucc from rfl,
    show (dats m T 0 c).owesAt () t.succ = (dats m T 0 c).owesAt () t.castSucc from rfl,
    after0_0, after0_1, after0_2, after0_3]
  rw [show (dats m T 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%d4, H4⟩⟩
  iapply ((bodyRun c (grid0.coords t) _ _ _ _ _ _ _ _ _ _ (iblk m T.ok c 0 t) (iblk m T.ok c 1 t) (iblk m T.ok c 2 t) (iblk m T.ok c 3 t)
    ((dats m T 0 c).before 4 t d4) (tbl m 0) (tbl m 1) (tbl m 2) (tbl m 3) _ _ _ (words m T t).1.1 (words m T t).1.2 (words m T t).2) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iapply (leaves4 m T c t d4 _ (step m T c t d4) fun hd => dead_step T.sum hd _ _ _ _ _)
  iexact H4

theorem defs₀_row (t : Fin (cfgM m T.ok).N) :
    defs₀ (F := Ideal) .tc (cfgM m T.ok).body ((cfgM m T.ok).bodyArgs t ((cfgM m T.ok).slots t)) = bodyAt0 (adm m T.ok) t := by
  unfold defs₀; rw [Defs.onTc_tc]

theorem body_obligation (c : Dev nD) : BodyObligation (dats m T 0 c) (defs₀ (F := Ideal)) Variants.none () Set.univ := fun t => by
  rw [bigSep_W0, bigSep_W0, defs₀_row m T]
  exact triple_restated (sound_body m T c t) rfl .rfl fun _ => .rfl

set_option backward.isDefEq.respectTransparency.types false in
/-- The run, with every array named at its end. -/
theorem run_main : θ_run defs (onTc (τ := τ) (main (F := Ideal))) (s₀ m ρ)
    (Pipeline.FramePost (Pipeline.pin pcfgs fun _ => adm m T.ok) (dats m T) (0 : Fin 1) (V m)) :=
  Pipeline.θ_run_frameP pcfgs (fun _ => adm m T.ok) (dats m T) (0 : Fin 1) launch0 defs₀ Variants.none m ρ main
    (hbody := fun c => (body_obligation m T c).loose) (hshare := fun c => (dats m T 0 c).share_full fun _ => rfl)
    (howed := fun _ _ => rfl) (V := V m) (hmain := hmain m Variants.none) (hA := A_eq m T) (hpf := V_pre m) (hΦ := fun _ _ => rfl)

end Cert.KernelIdeal.Gen.Value

end
-- ==== Proof.KernelIdealArray.lean ====
/-
  The output of `KernelIdeal` at the end of a run, over the extended reals: the grouped product, whole.
-/
module

public import proofs.«01_k».proof.Proof.KernelIdealRun

@[expose] public section

set_option maxRecDepth 16384

noncomputable section

namespace Cert.KernelIdeal.Gen.Value

open Idealize.ShloMosaic Idealize.ShloMosaic.TcCoe Idealize.ShloMosaic.Tactic
open Idealize.SL.Sem
open Idealize.ShloMosaic.Pipeline (Dat Cfg Window BodyObligation cellOf)
open Cert.Visits

variable (m : (ℓ : Loc nD τ sig) → Buf (Elt Ideal) ℓ) (ρ : Dev nD → PrngReg) {s : ℕ → ℕ} (T : Tabs (tbl m) s)

/-- The grouped product as the output's contents. -/
def goldBuf (s : ℕ → ℕ) (c : Dev nD) : Vec Ideal S65536x2048 .bf16 := fun i => goldOf m c s (i 0) (i 1)

/-- A block written back is a block of the grouped product. -/
theorem flushed_gold (c : Dev nD) (t : Fin (cfgM m T.ok).N) (hf : ((cfgM m T.ok).win 4).flush t = true) :
    (dats m T 0 c).flushed 4 t = (((cfgM m T.ok).win 4).blk t).view.read (Elt Ideal) (goldBuf m s c) := by
  have hfill := filled_of_moves T.sum ((flush_iff m T t).mp hf)
  funext (y : S256x2048.Idx)
  obtain ⟨r, j, rfl⟩ : ∃ (r : Fin 256) (j : Fin 2048), y = ValueIdx.ix2 r j := ⟨y 0, y 1, by funext a; match a with | 0 => rfl | 1 => rfl⟩
  have hr := r.isLt
  have hR : (rowOf s t.val r).val = 256 * tT s t.val + r.val := rowOf_val T.sum _ _
  refine ((dats m T 0 c).flushed_apply 4 t _).trans ((congrFun (after0_4 m T c t) _).trans ?_)
  refine Eq.trans ?_ ((View.read_apply _ _).trans (cast_eq _ _)).symm
  refine Eq.trans ?_ (congrArg (goldBuf m s c) (emb_out (adm m T.ok) t (index4 m T t) r j _ hR)).symm
  show afterVal s (goldOf m c s) t.val r j = goldOf m c s (rowOf s t.val r) j
  unfold afterVal
  rw [if_pos (by omega)]

/-- Every element of the output is in a block written back. -/
theorem covered (i : S65536x2048.Idx) : ∃ t : Fin (cfgM m T.ok).N, ((cfgM m T.ok).win 4).flush t = true ∧ i ∈ (((cfgM m T.ok).win 4).blk t).view.set := by
  obtain ⟨R, j, rfl⟩ : ∃ (R : Fin 65536) (j : Fin 2048), i = ValueIdx.ix2 R j := ⟨i 0, i 1, by funext a; match a with | 0 => rfl | 1 => rfl⟩
  have hR := R.isLt
  obtain ⟨v, hv, hq, hmove⟩ := exists_moves T.sum (q := R.val / 256) (by omega)
  have hN : v < (cfgM m T.ok).N := hv
  refine ⟨⟨v, hN⟩, (flush_iff m T ⟨v, hN⟩).mpr (hq ▸ hmove), ?_⟩
  have e := emb_out (adm m T.ok) ⟨v, hN⟩ (index4 m T ⟨v, hN⟩) ⟨R.val % 256, by omega⟩ j R (by show R.val = 256 * tT s v + R.val % 256; omega)
  exact e ▸ View.emb_mem_set _ _

theorem arr4 (c : Dev nD) : (dats m T 0 c).arrAt 4 (cfgM m T.ok).N = goldBuf m s c :=
  (dats m T 0 c).arrAt_eq_of_cover 4 (goldBuf m s c) (flushed_gold m T c) (covered m T)

include T in
/-- THE KERNEL'S VALUE: the output holds the grouped product, the arguments are as they were. -/
theorem run_value : θ_run defs (onTc (τ := τ) (main (F := Ideal))) ⟨m, fun _ => 0, ρ⟩ (fun r => ∀ c : Dev nD,
      r.2.mem ((c.tc : Thread nD τ).loc main_v57) = goldBuf m s c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hh c => ⟨
      ((hh c).1 4).trans (arr4 m T c),
      ((hh c).1 0).trans (((dats m T 0 c).arrAt_in 0 rfl _).trans ((A_eq m T c 0).trans (V_main_arg0 m c))),
      ((hh c).1 1).trans (((dats m T 0 c).arrAt_in 1 rfl _).trans ((A_eq m T c 1).trans (V_main_arg1 m c))),
      ((hh c).2 main_arg2 (by decide : main_arg2 ∈ Pipeline.restRefs sig spec0)).trans (V_main_arg2 m c),
      ((hh c).1 2).trans (((dats m T 0 c).arrAt_in 2 rfl _).trans ((A_eq m T c 2).trans (V_main_arg3 m c))),
      ((hh c).2 main_arg4 (by decide : main_arg4 ∈ Pipeline.restRefs sig spec0)).trans (V_main_arg4 m c)⟩) (run_main m ρ T)

end Cert.KernelIdeal.Gen.Value

end
-- ==== Proof.RefTrip.lean ====
/-
  One trip of the reference's loop over the experts, and the loop: after expert `e` the rows of the groups up to `e` hold the grouped
  product, and the rows past them hold zero.
-/
module

public import proofs.«01_k».proof.Proof.Gen.ReferenceIdeal.Value
public import proofs.«01_k».proof.Proof.HostWords
public import proofs.«01_k».proof.Proof.Gold
public import Idealize.ShloMosaic.Lib.Pointwise
public import Idealize.ShloMosaic.Lib.VecWindow

@[expose] public section

set_option maxRecDepth 16384

noncomputable section

namespace Cert.ReferenceIdeal.Gen

open Idealize.ShloMosaic Idealize.ShloMosaic.TcCoe Idealize.ShloMosaic.Tactic
open Cert.Visits

/-! ## One trip read at one element -/

/-- The zeros the output starts from. -/
theorem pay1_at (R : Fin 65536) (j : Fin 2048) : k0_pay1 (F := Ideal) (ValueIdx.ix2 R j) = (0 : EReal) := by
  pointwise [k0_pay1]
  try rfl

/-- What a trip stores at row `R`, column `j`: the scaled product inside the expert's group, the old element outside it. -/
theorem pay2_at (v7 v6 : BitVec 32) (x : Vec Ideal S65536x768 .fp8e4m3) (w : Vec Ideal S1x768x2048 .fp8e4m3) (xs : Vec Ideal S65536x1 .f32)
    (ws : Vec Ideal S1x2048 .f32) (o : Vec Ideal S65536x2048 .bf16) (R : Fin 65536) (j : Fin 2048) :
    k0_pay2 v7 v6 x w xs ws o (ValueIdx.ix2 R j)
      = Scalar.select
          (IntOp.andi (IntOp.cmpi .sge (BitVec.ofNat 32 R.val) v7) (IntOp.cmpi .slt (BitVec.ofNat 32 R.val) (Scalar.addi v7 v6)))
          (((∑ k : Fin 768, (x (ValueIdx.ix2 R k) : EReal) * w (ValueIdx.ix3 0 k j)) * xs (ValueIdx.ix2 R 0)) * ws (ValueIdx.ix2 0 j))
          (o (ValueIdx.ix2 R j) : EReal) := by
  pointwise [k0_pay2]
  rfl

section
variable (c : Dev nD) (arg0 : Memref sig .tc .smem S128 .i32) (harg0 : arg0.IsWhole) (arg1 : Memref sig .tc .vmem S65536x768 .fp8e4m3) (harg1 : arg1.IsWhole) (arg2 : Memref sig .tc .vmem S65536x1 .f32) (harg2 : arg2.IsWhole) (arg3 : Memref sig .tc .vmem S128x768x2048 .fp8e4m3) (harg3 : arg3.IsWhole) (arg4 : Memref sig .tc .vmem S128x2048 .f32) (harg4 : arg4.IsWhole) (arg5 : Memref sig .tc .vmem S65536x2048 .bf16) (harg5 : arg5.IsWhole)
  (x0 : Vec Ideal S128 .i32) (x1 : Vec Ideal S65536x768 .fp8e4m3) (x2 : Vec Ideal S65536x1 .f32) (x3 : Vec Ideal S128x768x2048 .fp8e4m3) (x4 : Vec Ideal S128x2048 .f32)

/-- The expert of a trip. -/
def exp (k : Fin k0_t1_loop.trips) : Fin 128 := ⟨k.val, lt_of_lt_of_le k.isLt k0_t1_abs.2.1⟩

/-- The trip's group size. -/
theorem word_at (k : Fin k0_t1_loop.trips) (h : 0 < S1.numel) :
    arg0.view.readAt (Elt Ideal) (Rect.unit (s := S128) (k0_off1 k) S1.size (k0_off1_inb k)).toLoadRect (harg0.unread x0) (Shape.Idx.first h)
      = x0 (ValueIdx.ix1 (exp k)) := by
  rw [View.readAt_apply, harg0.read_unread]
  refine congrArg x0 ?_
  funext (b : Fin 1)
  refine Fin.ext ?_
  match b with
  | 0 =>
    show k0_off1 k 0 + 1 * 0 = k.val
    rw [k0_off1_eq]; rfl

/-- The trip's expert matrix. -/
theorem w_at (k : Fin k0_t1_loop.trips) (a : Fin 768) (j : Fin 2048) :
    arg3.view.readAt (Elt Ideal) (Rect.unit (s := S128x768x2048) (k0_off2 k) S1x768x2048.size (k0_off2_inb k)).toLoadRect (harg3.unread x3) (ValueIdx.ix3 0 a j)
      = x3 (ValueIdx.ix3 (exp k) a j) := by
  rw [View.readAt_apply, harg3.read_unread]
  refine congrArg x3 ?_
  funext (b : Fin 3)
  refine Fin.ext ?_
  match b with
  | 0 => show k0_off2 k 0 + 1 * 0 = k.val; rw [k0_off2_eq]; rfl
  | 1 => show k0_off2 k 1 + 1 * a.val = a.val; rw [k0_off2_eq]; show 0 + 1 * a.val = a.val; omega
  | 2 => show k0_off2 k 2 + 1 * j.val = j.val; rw [k0_off2_eq]; show 0 + 1 * j.val = j.val; omega

/-- The trip's expert column scales. -/
theorem ws_at (k : Fin k0_t1_loop.trips) (j : Fin 2048) :
    arg4.view.readAt (Elt Ideal) (Rect.unit (s := S128x2048) (k0_off3 k) S1x2048.size (k0_off3_inb k)).toLoadRect (harg4.unread x4) (ValueIdx.ix2 0 j)
      = x4 (ValueIdx.ix2 (exp k) j) := by
  rw [View.readAt_apply, harg4.read_unread]
  refine congrArg x4 ?_
  funext (b : Fin 2)
  refine Fin.ext ?_
  match b with
  | 0 => show k0_off3 k 0 + 1 * 0 = k.val; rw [k0_off3_eq]; rfl
  | 1 => show k0_off3 k 1 + 1 * j.val = j.val; rw [k0_off3_eq]; show 0 + 1 * j.val = j.val; omega

/-- A trip carries on the end of its group. -/
theorem tripR_eq (k : Fin k0_t1_loop.trips) (acc : BitVec 32) (f : BufTy.Contents (Elt Ideal) arg5.view.ty) :
    tripR_k0_t1 (F := Ideal) Variants.none c none arg0 harg0 arg1 harg1 arg2 harg2 arg3 harg3 arg4 harg4 arg5 harg5 (harg0.unread x0) (harg1.unread x1) (harg2.unread x2) (harg3.unread x3) (harg4.unread x4) k acc f
      = Scalar.addi acc (x0 (ValueIdx.ix1 (exp k))) := by
  unfold tripR_k0_t1 trip_k0_t1
  dsimp only
  unfold trip_k0_t1.sl.v7 trip_k0_t1.sl.r
  exact congrArg (Scalar.addi acc) (word_at arg0 harg0 x0 k _)

/-- The group of rows of the trip's expert, scaled, as the extended reals' product. -/
abbrev prodOf (e : Fin 128) (R : Fin 65536) (j : Fin 2048) : EReal :=
  rowVal (fun R k => x1 (ValueIdx.ix2 R k)) (fun R => x2 (ValueIdx.ix2 R 0)) (fun e k j => x3 (ValueIdx.ix3 e k j)) (fun e j => x4 (ValueIdx.ix2 e j)) e R j

/-- What a trip stores, from what it reads. -/
theorem pay2_of (e : Fin 128) (v7 v6 : BitVec 32) (x : Vec Ideal S65536x768 .fp8e4m3) (w : Vec Ideal S1x768x2048 .fp8e4m3) (xs : Vec Ideal S65536x1 .f32)
    (ws : Vec Ideal S1x2048 .f32) (o : Vec Ideal S65536x2048 .bf16) (R : Fin 65536) (j : Fin 2048) (h0 : v6 = x0 (ValueIdx.ix1 e)) (h1 : x = x1)
    (h2 : xs = x2) (h3 : ∀ a, w (ValueIdx.ix3 0 a j) = x3 (ValueIdx.ix3 e a j)) (h4 : ws (ValueIdx.ix2 0 j) = x4 (ValueIdx.ix2 e j)) :
    k0_pay2 v7 v6 x w xs ws o (ValueIdx.ix2 R j)
      = Scalar.select
          (IntOp.andi (IntOp.cmpi .sge (BitVec.ofNat 32 R.val) v7) (IntOp.cmpi .slt (BitVec.ofNat 32 R.val) (Scalar.addi v7 (x0 (ValueIdx.ix1 e)))))
          (prodOf x1 x2 x3 x4 e R j) (o (ValueIdx.ix2 R j) : EReal) := by
  subst h0 h1 h2
  rw [pay2_at, h4]
  simp only [h3]
  rfl

/-- What the output holds after a trip's stores. -/
theorem tripL_at (k : Fin k0_t1_loop.trips) (acc : BitVec 32) (G f : BufTy.Contents (Elt Ideal) arg5.view.ty) (R : Fin 65536) (j : Fin 2048) :
    arg5.view.read (Elt Ideal) (arg5.view.writes (Elt Ideal) G (tripL_k0_t1 (F := Ideal) Variants.none c none arg0 harg0 arg1 harg1 arg2 harg2 arg3 harg3 arg4 harg4 arg5 harg5 (harg0.unread x0) (harg1.unread x1) (harg2.unread x2) (harg3.unread x3) (harg4.unread x4) k acc f)) (ValueIdx.ix2 R j)
      = Scalar.select
          (IntOp.andi (IntOp.cmpi .sge (BitVec.ofNat 32 R.val) acc) (IntOp.cmpi .slt (BitVec.ofNat 32 R.val) (Scalar.addi acc (x0 (ValueIdx.ix1 (exp k))))))
          (prodOf x1 x2 x3 x4 (exp k) R j) (arg5.view.read (Elt Ideal) f (ValueIdx.ix2 R j) : EReal) := by
  unfold tripL_k0_t1 trip_k0_t1
  dsimp only
  unfold trip_k0_t1.sl.r
  refine (congrFun (View.read_writes_full _ _ _ _ _) _).trans ?_
  refine (pay2_of x0 x1 x2 x3 x4 (exp k) acc _ _ _ _ _ _ R j (word_at arg0 harg0 x0 k _) ((View.readAt_full _ _ _).trans (harg1.read_unread x1))
    ((View.readAt_full _ _ _).trans (harg2.read_unread x2)) (fun a => w_at arg3 harg3 x3 k a j) (ws_at arg4 harg4 x4 k j)).trans ?_
  rw [View.readAt_full]

/-! ## The loop -/

/-- The loop's state before trip `n`. -/
abbrev stOf (G : BufTy.Contents (Elt Ideal) arg5.view.ty) (n : ℕ) : BitVec 32 × List (View.Piece (Elt Ideal) S65536x2048 .bf16) :=
  st_k0_t1 (F := Ideal) Variants.none c none arg0 harg0 arg1 harg1 arg2 harg2 arg3 harg3 arg4 harg4 arg5 harg5 (harg0.unread x0) (harg1.unread x1) (harg2.unread x2) (harg3.unread x3) (harg4.unread x4) G 0#32 n

/-- The grouped product over the reference's buffers. -/
abbrev goldAt (s : ℕ → ℕ) (R : Fin 65536) (j : Fin 2048) : EReal :=
  gold s (fun R k => x1 (ValueIdx.ix2 R k)) (fun R => x2 (ValueIdx.ix2 R 0)) (fun e k j => x3 (ValueIdx.ix3 e k j)) (fun e j => x4 (ValueIdx.ix2 e j)) R j

/-- THE LOOP'S INVARIANT: before trip `n` the carried word is the end of the first `n` groups, and the output holds the grouped product in
    their rows and zero past them. -/
theorem loop_inv {s : ℕ → ℕ} (hs : psum s 128 = 65536) (hd : Dec (n := 128) x0 s) (G : BufTy.Contents (Elt Ideal) arg5.view.ty)
    (hG : ∀ (R : Fin 65536) (j : Fin 2048), arg5.view.read (Elt Ideal) G (ValueIdx.ix2 R j) = (0 : EReal)) :
    ∀ n : ℕ, n ≤ k0_t1_loop.trips →
      (stOf c arg0 harg0 arg1 harg1 arg2 harg2 arg3 harg3 arg4 harg4 arg5 harg5 x0 x1 x2 x3 x4 G n).1 = BitVec.ofNat 32 (psum s n)
      ∧ ∀ (R : Fin 65536) (j : Fin 2048),
        arg5.view.read (Elt Ideal) (arg5.view.writes (Elt Ideal) G (stOf c arg0 harg0 arg1 harg1 arg2 harg2 arg3 harg3 arg4 harg4 arg5 harg5 x0 x1 x2 x3 x4 G n).2) (ValueIdx.ix2 R j)
          = if R.val < psum s n then goldAt x1 x2 x3 x4 s R j else (0 : EReal) := by
  intro n
  induction n with
  | zero =>
    intro _
    have h0 := st_k0_t1_zero (F := Ideal) Variants.none c none arg0 harg0 arg1 harg1 arg2 harg2 arg3 harg3 arg4 harg4 arg5 harg5 (harg0.unread x0) (harg1.unread x1) (harg2.unread x2) (harg3.unread x3) (harg4.unread x4) G 0#32
    refine ⟨h0, fun R j => ?_⟩
    rw [if_neg (by rw [psum_zero]; omega)]
    exact hG R j
  | succ n ih =>
    intro hn
    obtain ⟨i1, i2⟩ := ih (by omega)
    have hk : n < k0_t1_loop.trips := by omega
    have h128 : n + 1 ≤ 128 := le_trans hn k0_t1_abs.2.1
    have hstep := st_k0_t1_succ (F := Ideal) Variants.none c none arg0 harg0 arg1 harg1 arg2 harg2 arg3 harg3 arg4 harg4 arg5 harg5 (harg0.unread x0) (harg1.unread x1) (harg2.unread x2) (harg3.unread x3) (harg4.unread x4) G 0#32 ⟨n, hk⟩
    have hw : x0 (ValueIdx.ix1 (exp ⟨n, hk⟩)) = BitVec.ofNat 32 (s n) := hd (exp ⟨n, hk⟩)
    have hps : psum s (n + 1) = psum s n + s n := psum_succ s n
    have hle : psum s (n + 1) ≤ 65536 := hs ▸ psum_mono s h128
    have hadd : Scalar.addi (BitVec.ofNat 32 (psum s n)) (BitVec.ofNat 32 (s n)) = BitVec.ofNat 32 (psum s (n + 1)) := by
      rw [hps, BitVec.ofNat_add]; rfl
    constructor
    · refine (congrArg Prod.fst hstep).trans ?_
      refine (tripR_eq c arg0 harg0 arg1 harg1 arg2 harg2 arg3 harg3 arg4 harg4 arg5 harg5 x0 x1 x2 x3 x4 ⟨n, hk⟩ _ _).trans ?_
      rw [hw, ← hadd]
      exact congrArg (fun v => Scalar.addi v _) i1
    · intro R j
      have hR := R.isLt
      refine Eq.trans (congrFun (congrArg (fun L => arg5.view.read (Elt Ideal) (arg5.view.writes (Elt Ideal) G L)) (congrArg Prod.snd hstep)) _) ?_
      dsimp only
      rw [View.writes_append]
      refine (tripL_at c arg0 harg0 arg1 harg1 arg2 harg2 arg3 harg3 arg4 harg4 arg5 harg5 x0 x1 x2 x3 x4 ⟨n, hk⟩ _ _ _ R j).trans ?_
      refine (congrArg (Scalar.select _ _) (i2 R j)).trans ?_
      rw [hw]
      refine (congrArg (fun v => Scalar.select (IntOp.andi (IntOp.cmpi .sge (BitVec.ofNat 32 R.val) v) (IntOp.cmpi .slt (BitVec.ofNat 32 R.val) (Scalar.addi v _))) _ _) i1).trans ?_
      rw [hadd, WordCmp.cmpi_sge_ofNat (by omega) (by omega), WordCmp.cmpi_slt_ofNat (by omega) (by omega)]
      by_cases a1 : psum s n ≤ R.val
      · have a3 : ¬ R.val < psum s n := by omega
        by_cases a2 : R.val < psum s (n + 1)
        · have ho : rowOwner s R.val = exp ⟨n, hk⟩ := rowOwner_eq (e := exp ⟨n, hk⟩) a1 a2
          simp only [a1, a2, a3, IntOp.andi, Scalar.select, goldAt, gold, ho, if_true]
          rfl
        · simp [a1, a2, a3, IntOp.andi, Scalar.select]
      · have a3 : R.val < psum s n := by omega
        have a2 : R.val < psum s (n + 1) := by omega
        simp [a1, a2, a3, IntOp.andi, Scalar.select]

end

end Cert.ReferenceIdeal.Gen

end
-- ==== Proof.RefValue.lean ====
/-
  The reference's value: its output holds the grouped product of its arguments.
-/
module

public import proofs.«01_k».proof.Proof.RefTrip

@[expose] public section

set_option maxRecDepth 16384

noncomputable section

namespace Cert.ReferenceIdeal.Gen

open Idealize.ShloMosaic Idealize.ShloMosaic.TcCoe Idealize.ShloMosaic.Tactic
open Idealize.SL.Sem
open Idealize.ShloMosaic.Pipeline (Dat Cfg Window)
open Cert.Visits

/-- What the body leaves in the output, from the contents of its inputs. -/
theorem out_at (c : Dev nD) (arg0 : Memref sig .tc .smem S128 .i32) (harg0 : arg0.IsWhole) (arg1 : Memref sig .tc .vmem S65536x768 .fp8e4m3) (harg1 : arg1.IsWhole) (arg2 : Memref sig .tc .vmem S65536x1 .f32) (harg2 : arg2.IsWhole) (arg3 : Memref sig .tc .vmem S128x768x2048 .fp8e4m3) (harg3 : arg3.IsWhole) (arg4 : Memref sig .tc .vmem S128x2048 .f32) (harg4 : arg4.IsWhole) (arg5 : Memref sig .tc .vmem S65536x2048 .bf16) (harg5 : arg5.IsWhole)
    (x0 : Vec Ideal S128 .i32) (x1 : Vec Ideal S65536x768 .fp8e4m3) (x2 : Vec Ideal S65536x1 .f32) (x3 : Vec Ideal S128x768x2048 .fp8e4m3) (x4 : Vec Ideal S128x2048 .f32)
    {s : ℕ → ℕ} (hs : psum s 128 = 65536) (hd : Dec (n := 128) x0 s) (R : Fin 65536) (j : Fin 2048) :
    out0_A_5 c arg0 harg0 arg1 harg1 arg2 harg2 arg3 harg3 arg4 harg4 arg5 harg5 x0 x1 x2 x3 x4 (ValueIdx.ix2 R j) = goldAt x1 x2 x3 x4 s R j := by
  have hrun := View.read_writes_of_cover VO0_5 (VO0_5.junk (Val := Elt Ideal)) arg5.view (arg5.view.junk (Val := Elt Ideal)) _
    (cover0_A_5 (F := Ideal) c arg0 harg0 arg1 harg1 arg2 harg2 arg3 harg3 arg4 harg4 arg5 harg5 x0 x1 x2 x3 x4)
  unfold out0_A_5
  refine (congrFun hrun _).trans ?_
  unfold kernelRun0_A
  dsimp only
  unfold kernelRun0_A.sl.H5_1
  rw [View.writes_append]
  have hn : Scf.trips (0#32) (Scalar.addi 0#32 128#32) 1#32 = 128 := by decide +kernel
  have hz : ∀ (R : Fin 65536) (j : Fin 2048), arg5.view.read (Elt Ideal) (arg5.view.writes (Elt Ideal) arg5.view.junk
      [⟨Rect.unit ![0, 0] ![65536, 2048] inb_S65536x2048_S65536x2048_0_0, k0_pay1 (F := Ideal)⟩]) (ValueIdx.ix2 R j) = (0 : EReal) := fun R j =>
    (congrFun (View.read_writes_full (s := S65536x2048) _ _ _ _ _) _).trans (pay1_at R j)
  have h := (loop_inv c arg0 harg0 arg1 harg1 arg2 harg2 arg3 harg3 arg4 harg4 arg5 harg5 x0 x1 x2 x3 x4 hs hd _ hz _ (le_refl _)).2 R j
  refine h.trans ?_
  rw [if_pos]
  show R.val < psum s (Scf.trips (0#32) (Scalar.addi 0#32 128#32) 1#32)
  rw [hn, hs]
  exact R.isLt

end Cert.ReferenceIdeal.Gen

namespace Cert.ReferenceIdeal.Value

open Cert.ReferenceIdeal Cert.ReferenceIdeal.Gen Idealize.ShloMosaic Idealize.ShloMosaic.TcCoe Idealize.SL.Sem
open Idealize.ShloMosaic.Pipeline (Dat)
open Cert.Visits

variable {F : FTy → Type} [FloatOps F]

/-! ## Every window is its whole array -/

theorem idx0 : ∀ t : Fin cfg0.N, win0_0.index t = ![0] := (by decide +kernel : ∀ t : Fin grid0.N, win0_0.index t = ![0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])

theorem read0 (t : Fin cfg0.N) (X : Vec F S128 .i32) : ((cfg0.win 0).blk t).view.read (Elt F) X = X := by
  funext (y : S128.Idx)
  refine (View.read_apply _ _).trans ((cast_eq _ _).trans (congrArg X ?_))
  funext (b : Fin 1)
  refine Fin.ext ?_
  refine ((cfg0.win 0).rect_emb_val t _ b).trans ?_
  rw [show (cfg0.win 0).index t = ![0] from idx0 t]
  match b with
  | 0 => show 0 * 128 + (y 0).val = (y 0).val; omega

theorem read1 (t : Fin cfg0.N) (X : Vec F S65536x768 .fp8e4m3) : ((cfg0.win 1).blk t).view.read (Elt F) X = X := by
  funext (y : S65536x768.Idx)
  refine (View.read_apply _ _).trans ((cast_eq _ _).trans (congrArg X ?_))
  funext (b : Fin 2)
  refine Fin.ext ?_
  refine ((cfg0.win 1).rect_emb_val t _ b).trans ?_
  rw [show (cfg0.win 1).index t = ![0, 0] from idx1 t]
  match b with
  | 0 => show 0 * 65536 + (y 0).val = (y 0).val; omega
  | 1 => show 0 * 768 + (y 1).val = (y 1).val; omega

theorem read2 (t : Fin cfg0.N) (X : Vec F S65536x1 .f32) : ((cfg0.win 2).blk t).view.read (Elt F) X = X := by
  funext (y : S65536x1.Idx)
  refine (View.read_apply _ _).trans ((cast_eq _ _).trans (congrArg X ?_))
  funext (b : Fin 2)
  refine Fin.ext ?_
  refine ((cfg0.win 2).rect_emb_val t _ b).trans ?_
  rw [show (cfg0.win 2).index t = ![0, 0] from idx2 t]
  match b with
  | 0 => show 0 * 65536 + (y 0).val = (y 0).val; omega
  | 1 => show 0 * 1 + (y 1).val = (y 1).val; omega

theorem read3 (t : Fin cfg0.N) (X : Vec F S128x768x2048 .fp8e4m3) : ((cfg0.win 3).blk t).view.read (Elt F) X = X := by
  funext (y : S128x768x2048.Idx)
  refine (View.read_apply _ _).trans ((cast_eq _ _).trans (congrArg X ?_))
  funext (b : Fin 3)
  refine Fin.ext ?_
  refine ((cfg0.win 3).rect_emb_val t _ b).trans ?_
  rw [show (cfg0.win 3).index t = ![0, 0, 0] from idx3 t]
  match b with
  | 0 => show 0 * 128 + (y 0).val = (y 0).val; omega
  | 1 => show 0 * 768 + (y 1).val = (y 1).val; omega
  | 2 => show 0 * 2048 + (y 2).val = (y 2).val; omega

theorem read4 (t : Fin cfg0.N) (X : Vec F S128x2048 .f32) : ((cfg0.win 4).blk t).view.read (Elt F) X = X := by
  funext (y : S128x2048.Idx)
  refine (View.read_apply _ _).trans ((cast_eq _ _).trans (congrArg X ?_))
  funext (b : Fin 2)
  refine Fin.ext ?_
  refine ((cfg0.win 4).rect_emb_val t _ b).trans ?_
  rw [show (cfg0.win 4).index t = ![0, 0] from idx4 t]
  match b with
  | 0 => show 0 * 128 + (y 0).val = (y 0).val; omega
  | 1 => show 0 * 2048 + (y 1).val = (y 1).val; omega

theorem emb5 (t : Fin cfg0.N) (y : S65536x2048.Idx) : ((cfg0.win 5).blk t).view.emb y = y := by
  funext (b : Fin 2)
  refine Fin.ext ?_
  refine ((cfg0.win 5).rect_emb_val t _ b).trans ?_
  rw [show (cfg0.win 5).index t = ![0, 0] from idx5 t]
  match b with
  | 0 => show 0 * 65536 + (y 0).val = (y 0).val; omega
  | 1 => show 0 * 2048 + (y 1).val = (y 1).val; omega

/-! ## The output -/

section
variable (m : (ℓ : Loc nD τ sig) → Buf (Elt Ideal) ℓ) (ρ : Dev nD → PrngReg)

/-- The arguments as arrays of numbers. -/
abbrev argX (c : Dev nD) : Vec Ideal S65536x768 .fp8e4m3 := m ((c.tc : Thread nD τ).loc main_arg0)
abbrev argXs (c : Dev nD) : Vec Ideal S65536x1 .f32 := m ((c.tc : Thread nD τ).loc main_arg1)
abbrev argGs (c : Dev nD) : Vec Ideal S128 .i32 := m ((c.tc : Thread nD τ).loc main_arg2)
abbrev argW (c : Dev nD) : Vec Ideal S128x768x2048 .fp8e4m3 := m ((c.tc : Thread nD τ).loc main_arg3)
abbrev argWs (c : Dev nD) : Vec Ideal S128x2048 .f32 := m ((c.tc : Thread nD τ).loc main_arg4)

theorem blk0 (c : Dev nD) (t : Fin cfg0.N) : iblk m c 0 t = argGs m c := (read0 t _).trans (V_main_arg2 m c)
theorem blk1 (c : Dev nD) (t : Fin cfg0.N) : iblk m c 1 t = argX m c := (read1 t _).trans (V_main_arg0 m c)
theorem blk2 (c : Dev nD) (t : Fin cfg0.N) : iblk m c 2 t = argXs m c := (read2 t _).trans (V_main_arg1 m c)
theorem blk3 (c : Dev nD) (t : Fin cfg0.N) : iblk m c 3 t = argW m c := (read3 t _).trans (V_main_arg3 m c)
theorem blk4 (c : Dev nD) (t : Fin cfg0.N) : iblk m c 4 t = argWs m c := (read4 t _).trans (V_main_arg4 m c)

/-- The grouped product as the output's contents. -/
def goldBuf (s : ℕ → ℕ) (c : Dev nD) : Vec Ideal S65536x2048 .bf16 := fun i => goldAt (argX m c) (argXs m c) (argW m c) (argWs m c) s (i 0) (i 1)

variable {s : ℕ → ℕ} (hs : psum s 128 = 65536) (hd : ∀ c, Dec (n := 128) (argGs m c) s)

include hs hd in
theorem flushed_gold (c : Dev nD) (t : Fin cfg0.N) :
    (dats m 0 c).flushed 5 t = ((cfg0.win 5).blk t).view.read (Elt Ideal) (goldBuf m s c) := by
  rw [flushed5_A]
  funext (y : S65536x2048.Idx)
  obtain ⟨R, j, rfl⟩ : ∃ (R : Fin 65536) (j : Fin 2048), y = ValueIdx.ix2 R j := ⟨y 0, y 1, by funext a; match a with | 0 => rfl | 1 => rfl⟩
  refine Eq.trans ?_ ((View.read_apply _ _).trans (cast_eq _ _)).symm
  refine Eq.trans ?_ (congrArg (goldBuf m s c) (emb5 t _)).symm
  refine (out_at c _ _ _ _ _ _ _ _ _ _ _ _ (iblk m c 0 t) (iblk m c 1 t) (iblk m c 2 t) (iblk m c 3 t) (iblk m c 4 t) hs ((blk0 m c t).symm ▸ hd c) R j).trans ?_
  have e1 := blk1 m c t
  have e2 := blk2 m c t
  have e3 := blk3 m c t
  have e4 := blk4 m c t
  generalize iblk m c 1 t = b1 at e1 ⊢
  generalize iblk m c 2 t = b2 at e2 ⊢
  generalize iblk m c 3 t = b3 at e3 ⊢
  generalize iblk m c 4 t = b4 at e4 ⊢
  subst e1 e2 e3 e4
  rfl

theorem covered (i : S65536x2048.Idx) : ∃ t : Fin cfg0.N, (cfg0.win 5).flush t = true ∧ i ∈ ((cfg0.win 5).blk t).view.set :=
  ⟨⟨0, by decide⟩, by decide +kernel, emb5 (⟨0, by decide⟩ : Fin cfg0.N) i ▸ View.emb_mem_set _ _⟩

include hs hd in
/-- THE REFERENCE'S VALUE: the output holds the grouped product, the arguments are as they were. -/
theorem run_value : θ_run defs (onTc (τ := τ) (main (F := Ideal))) ⟨m, fun _ => 0, ρ⟩ (fun r => ∀ c : Dev nD,
      r.2.mem ((c.tc : Thread nD τ).loc main_v0) = goldBuf m s c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans
    ((dats m 0 c).arrAt_eq_of_cover 5 (goldBuf m s c) (fun t _ => flushed_gold m hs hd c t) covered), (h c).2⟩) (run_blocks m ρ)

end

end Cert.ReferenceIdeal.Value

end
-- ==== Proof.Equation.lean ====
/-
  The kernel over the extended reals and the reference, run on equal arguments, leave equal results: both leave the grouped product.
-/
module

public import proofs.«01_k».proof.Defs
public import proofs.«01_k».proof.Proof.Frames
public import proofs.«01_k».proof.Proof.KernelIdealArray
public import proofs.«01_k».proof.Proof.RefValue

@[expose] public section

noncomputable section

namespace Cert.Proof

open Idealize.ShloMosaic Idealize.SL.Sem
open Cert.Visits

theorem gold_congr {s : ℕ → ℕ} {x x' : Fin 65536 → Fin 768 → EReal} {xs xs' : Fin 65536 → EReal} {w w' : Fin 128 → Fin 768 → Fin 2048 → EReal}
    {ws ws' : Fin 128 → Fin 2048 → EReal} (h0 : x = x') (h1 : xs = xs') (h2 : w = w') (h3 : ws = ws') (R : Fin 65536) (j : Fin 2048) :
    gold s x xs w ws R j = gold s x' xs' w' ws' R j := by
  subst h0 h1 h2 h3; rfl

/-- The reference's grouped product is the kernel's, where the arguments agree. -/
theorem goldBuf_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (s : ℕ → ℕ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.goldBuf m' s c = Cert.KernelIdeal.Gen.Value.goldBuf m s c := by
  funext i
  have e0 : ∀ y, Cert.ReferenceIdeal.Value.argX m' c y = (m ((c.tc : Thread Cert.KernelIdeal.nD Cert.KernelIdeal.τ).loc Cert.KernelIdeal.main_arg0) : Vec Ideal Cert.KernelIdeal.S65536x768 .fp8e4m3) y := congrFun h0
  have e1 : ∀ y, Cert.ReferenceIdeal.Value.argXs m' c y = (m ((c.tc : Thread Cert.KernelIdeal.nD Cert.KernelIdeal.τ).loc Cert.KernelIdeal.main_arg1) : Vec Ideal Cert.KernelIdeal.S65536x1 .f32) y := congrFun h1
  have e3 : ∀ y, Cert.ReferenceIdeal.Value.argW m' c y = (m ((c.tc : Thread Cert.KernelIdeal.nD Cert.KernelIdeal.τ).loc Cert.KernelIdeal.main_arg3) : Vec Ideal Cert.KernelIdeal.S128x768x2048 .fp8e4m3) y := congrFun h3
  have e4 : ∀ y, Cert.ReferenceIdeal.Value.argWs m' c y = (m ((c.tc : Thread Cert.KernelIdeal.nD Cert.KernelIdeal.τ).loc Cert.KernelIdeal.main_arg4) : Vec Ideal Cert.KernelIdeal.S128x2048 .f32) y := congrFun h4
  have f0 := funext fun R => funext fun k => e0 (ValueIdx.ix2 R k)
  have f1 := funext fun R => e1 (ValueIdx.ix2 R 0)
  have f3 := funext fun e => funext fun k => funext fun j => e3 (ValueIdx.ix3 e k j)
  have f4 := funext fun e => funext fun j => e4 (ValueIdx.ix2 e j)
  exact gold_congr f0 f1 f3 f4 (i 0) (i 1)

theorem algebraic : Cert.algebraic_KernelIdeal_ReferenceIdeal := by
  intro m g m' g' hpre hargs
  have T := tabsI m hpre
  have hgs : ∀ c : Dev Cert.KernelIdeal.nD, Cert.ReferenceIdeal.Value.argGs m' c
      = (m (((0 : Dev Cert.KernelIdeal.nD).tc : Thread Cert.KernelIdeal.nD Cert.KernelIdeal.τ).loc Cert.KernelIdeal.main_arg2) : Vec Ideal Cert.KernelIdeal.S128 .i32) := fun c => by
    obtain rfl : c = 0 := Subsingleton.elim _ _
    exact (hargs 0).2.2.1
  have hd : ∀ c : Dev Cert.KernelIdeal.nD, Dec (n := 128) (Cert.ReferenceIdeal.Value.argGs m' c) (sizesI m) := fun c => by
    rw [hgs c]
    exact sizes_dec _
  refine ⟨Cert.KernelIdeal.Gen.Value.goldBuf m (sizesI m), Cert.KernelIdeal.Gen.Value.run_value m g T, ?_⟩
  refine (θ_run _ _ _).mono (fun _ h c => ⟨(h c).1.trans ?_, (h c).2⟩) (Cert.ReferenceIdeal.Value.run_value m' g' T.sum hd)
  exact goldBuf_eq m m' (sizesI m) c (hargs c).1 (hargs c).2.1 (hargs c).2.2.2.1 (hargs c).2.2.2.2

end Cert.Proof

end
-- ==== Proof.lean ====
/-
  The claims, put together: the frames of the kernel, of its reading over the extended reals and of the reference
  (`Proof/Frames.lean`), the idealization, which rewrites nothing, and the equality of the kernel's and the reference's results
  (`Proof/Equation.lean`).
-/
module

public import proofs.«01_k».proof.Defs
public import proofs.«01_k».proof.Proof.Frames
public import proofs.«01_k».proof.Proof.Equation
public import proofs.«01_k».proof.Proof.Gen.ReferenceIdeal.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_pre.Gen.facts, frameK, frameI, frameR, frameRpre, trivial, algebraic⟩

end Cert.Proof

end
